-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_usable : Cert.Pre_usable.Facts),
    quiescent_Kernel (hKernel := hKernel)
    ∧ quiescent_KernelIdeal (hKernelIdeal := hKernelIdeal)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ preserves_Kernel_KernelIdeal
    ∧ algebraic_KernelIdeal_ReferenceIdeal_pre_usable (hKernelIdeal := hKernelIdeal) (hReferenceIdeal := hReferenceIdeal) (hPre_usable := hPre_usable)
-- ==== Pre_usable.lean ====
abbrev S4x2048x2048 : Shape := ⟨3, ![4, 2048, 2048]⟩
abbrev S4x2048 : Shape := ⟨2, ![4, 2048]⟩
abbrev S4x2048x8 : Shape := ⟨3, ![4, 2048, 8]⟩
abbrev S8x2048x256 : Shape := ⟨3, ![8, 2048, 256]⟩
abbrev S32x256 : Shape := ⟨2, ![32, 256]⟩
abbrev S_ : Shape := ⟨0, ![]⟩

class Facts : Prop where
  bcast_S_S4x2048x2048 : S_.BroadcastsInDim S4x2048x2048 (![] : Fin 0 → Fin S4x2048x2048.rank)
  bcast_S_S4x2048x8 : S_.BroadcastsInDim S4x2048x8 (![] : Fin 0 → Fin S4x2048x8.rank)
  bcast_S_S8x2048x256 : S_.BroadcastsInDim S8x2048x256 (![] : Fin 0 → Fin S8x2048x256.rank)

variable [Facts]

def fn {F : FTy → Type} [FloatOps F] (main_arg0 : FVec F S4x2048x2048 .f32) (main_arg1 : IVec S4x2048 32) (main_arg2 : FVec F S4x2048x8 .f32) (main_arg3 : IVec S4x2048x8 32) (main_arg4 : FVec F S8x2048x256 .f32) (main_arg5 : FVec F S32x256 .f32) : IVec S4x2048x2048 1 × IVec S4x2048x8 1 × IVec S8x2048x256 1 × IVec S4x2048x8 1 × IVec S4x2048x8 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_v3 : FVec F S4x2048x8 .f32 := Host.absf main_arg2
  let main_cst_0 : FVec F S_ .f32 := constant S_ .f32 0x7F800000#32
  let main_v4 : FVec F S4x2048x8 .f32 := broadcastInDim S4x2048x8 ![] bcast_S_S4x2048x8 main_cst_0
  let main_v5 : IVec S4x2048x8 1 := cmpf .olt main_v3 main_v4
  let main_v6 : FVec F S8x2048x256 .f32 := Host.absf main_arg4
  let main_cst_1 : FVec F S_ .f32 := constant S_ .f32 0x7F800000#32
  let main_v7 : FVec F S8x2048x256 .f32 := broadcastInDim S8x2048x256 ![] bcast_S_S8x2048x256 main_cst_1
  let main_v8 : IVec S8x2048x256 1 := cmpf .olt main_v6 main_v7
  let main_c : IVec S_ 32 := constantI S_ 32 0#32
  let main_v9 : IVec S4x2048x8 32 := broadcastInDim S4x2048x8 ![] bcast_S_S4x2048x8 main_c
  let main_v10 : IVec S4x2048x8 1 := cmpi .sge main_arg3 main_v9
  let main_c_2 : IVec S_ 32 := constantI S_ 32 32#32
  let main_v11 : IVec S4x2048x8 32 := broadcastInDim S4x2048x8 ![] bcast_S_S4x2048x8 main_c_2
  let main_v12 : IVec S4x2048x8 1 := cmpi .slt main_arg3 main_v11
  (main_v2, main_v5, main_v8, main_v10, main_v12)
-- ==== Kernel.lean ====
abbrev S4x2048x2048 : Shape := ⟨3, ![4, 2048, 2048]⟩
abbrev S4x2048 : Shape := ⟨2, ![4, 2048]⟩
abbrev S4x2048x8 : Shape := ⟨3, ![4, 2048, 8]⟩
abbrev S8x2048x256 : Shape := ⟨3, ![8, 2048, 256]⟩
abbrev S32x256 : Shape := ⟨2, ![32, 256]⟩
abbrev S8192x2048 : Shape := ⟨2, ![8192, 2048]⟩
abbrev S8192x8 : Shape := ⟨2, ![8192, 8]⟩
abbrev S8x8192 : Shape := ⟨2, ![8, 8192]⟩
abbrev S8192x256 : Shape := ⟨2, ![8192, 256]⟩
abbrev S1024x2048 : Shape := ⟨2, ![1024, 2048]⟩
abbrev S1024x8 : Shape := ⟨2, ![1024, 8]⟩
abbrev S8x1024 : Shape := ⟨2, ![8, 1024]⟩
abbrev S1024x256 : Shape := ⟨2, ![1024, 256]⟩
abbrev S2x1024x256 : Shape := ⟨3, ![2, 1024, 256]⟩
abbrev S1x2048x256 : Shape := ⟨3, ![1, 2048, 256]⟩
abbrev S2048x256 : Shape := ⟨2, ![2048, 256]⟩
abbrev S1024x1 : Shape := ⟨2, ![1024, 1]⟩
abbrev S1x1024x256 : Shape := ⟨3, ![1, 1024, 256]⟩
abbrev S32 : Shape := ⟨1, ![32]⟩
abbrev S32x1 : Shape := ⟨2, ![32, 1]⟩
abbrev S32x32 : Shape := ⟨2, ![32, 32]⟩
abbrev S32x1024 : Shape := ⟨2, ![32, 1024]⟩
abbrev S1x1024 : Shape := ⟨2, ![1, 1024]⟩
abbrev S1024 : Shape := ⟨1, ![1024]⟩

abbrev nBuf : Space → Nat
  | .hbm => 11
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .i32⟩
  | .hbm, ⟨2, _⟩ => ⟨S4x2048x8, .f32⟩
  | .hbm, ⟨3, _⟩ => ⟨S4x2048x8, .i32⟩
  | .hbm, ⟨4, _⟩ => ⟨S8x2048x256, .f32⟩
  | .hbm, ⟨5, _⟩ => ⟨S32x256, .f32⟩
  | .hbm, ⟨6, _⟩ => ⟨S8192x2048, .f32⟩
  | .hbm, ⟨7, _⟩ => ⟨S8192x8, .f32⟩
  | .hbm, ⟨8, _⟩ => ⟨S8192x8, .i32⟩
  | .hbm, ⟨9, _⟩ => ⟨S8x8192, .i32⟩
  | .hbm, ⟨10, _⟩ => ⟨S8192x256, .f32⟩
  | .local _ .vmem, ⟨0, _⟩ => ⟨S1024x2048, .f32⟩
  | .local _ .vmem, ⟨1, _⟩ => ⟨S1024x2048, .f32⟩
  | .local _ .vmem, ⟨2, _⟩ => ⟨S1024x8, .f32⟩
  | .local _ .vmem, ⟨3, _⟩ => ⟨S1024x8, .f32⟩
  | .local _ .vmem, ⟨4, _⟩ => ⟨S8x1024, .i32⟩
  | .local _ .vmem, ⟨5, _⟩ => ⟨S8x1024, .i32⟩
  | .local _ .vmem, ⟨6, _⟩ => ⟨S8x2048x256, .f32⟩
  | .local _ .vmem, ⟨7, _⟩ => ⟨S32x256, .f32⟩
  | .local _ .vmem, ⟨8, _⟩ => ⟨S1024x256, .f32⟩
  | .local _ .vmem, ⟨9, _⟩ => ⟨S1024x256, .f32⟩
  | .local _ .vmem, ⟨10, _⟩ => ⟨S8x2048x256, .bf16⟩
  | .local _ .vmem, ⟨11, _⟩ => ⟨S2x1024x256, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let c2_i32 : BitVec 32 := 2#32
  let c0_i32_32 : BitVec 32 := 0#32
  let v71 : BitVec 1 := Scalar.cmpi .eq c2_i32 c0_i32_32
  let c1_i32 : BitVec 32 := 1#32
  let v72 : BitVec 32 := Scalar.select v71 c1_i32 c2_i32
  let v73 : BitVec 32 := Scalar.remsi arg0 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let v81 : Index := Scalar.indexCast v80
  let c0_36 : Index := 0#32
  let c0_37 : Index := 0#32
  ![v81.toNat, 0, 0]
def k0_cond3 (i : grid0.Coords) : BitVec 1 :=
  let arg0 : BitVec 32 := BitVec.ofNat 32 (i 0).val
  let c0_i32_2 : BitVec 32 := 0#32
  let v6 : BitVec 1 := Scalar.cmpi .sgt arg0 c0_i32_2
  let v7 : BitVec 32 := Scalar.extui v6
  let c0_i32_3 : BitVec 32 := 0#32
  let v8 : BitVec 1 := Scalar.cmpi .ne v7 c0_i32_3
  v8

def k0_off2 (i : grid0.Coords) : Fin 3 → Nat :=
  let arg0 : BitVec 32 := BitVec.ofNat 32 (i 0).val
  let c1_i32 : BitVec 32 := 1#32
  let v9 : BitVec 32 := Scalar.addi arg0 c1_i32
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : Index := Scalar.indexCast v19
  let c0 : Index := 0#32
  let c0_9 : Index := 0#32
  ![v20.toNat, 0, 0]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x2048x2048 : Shape := ⟨3, ![4, 2048, 2048]⟩
abbrev S4x2048 : Shape := ⟨2, ![4, 2048]⟩
abbrev S4x2048x8 : Shape := ⟨3, ![4, 2048, 8]⟩
abbrev S8x2048x256 : Shape := ⟨3, ![8, 2048, 256]⟩
abbrev S32x256 : Shape := ⟨2, ![32, 256]⟩
abbrev S4x2048x8x256 : Shape := ⟨4, ![4, 2048, 8, 256]⟩
abbrev S4x2048x8x1 : Shape := ⟨4, ![4, 2048, 8, 1]⟩
abbrev S_ : Shape := ⟨0, ![]⟩
abbrev S4x2048x256 : Shape := ⟨3, ![4, 2048, 256]⟩
abbrev S1 : Shape := ⟨1, ![1]⟩
abbrev S1x1x1x1 : Shape := ⟨4, ![1, 1, 1, 1]⟩
abbrev S4x2048x1x256 : Shape := ⟨4, ![4, 2048, 1, 256]⟩
abbrev S4x2048x1 : Shape := ⟨3, ![4, 2048, 1]⟩
abbrev S8192x256 : Shape := ⟨2, ![8192, 256]⟩

abbrev nBuf : Space → Nat
  | .hbm => 212
  | .vmem => 0
  | .smem => 0
  | _ => 0

abbrev hbmTy0_0 (i : Nat) : BufTy := match i % 128 with
  | 0 => ⟨S4x2048x2048, .f32⟩
  | 1 => ⟨S4x2048, .i32⟩
  | 2 => ⟨S4x2048x8, .f32⟩
  | 3 => ⟨S4x2048x8, .i32⟩
  | 4 => ⟨S8x2048x256, .f32⟩
  | 5 => ⟨S32x256, .f32⟩
  | 6 => ⟨S4x2048x8x256, .f32⟩
  | 7 => ⟨S4x2048x8x1, .f32⟩
  | 8 => ⟨S4x2048x8x256, .f32⟩
  | 9 => ⟨S4x2048x8x256, .f32⟩
  | 10 => ⟨S_, .f32⟩
  | 11 => ⟨S4x2048x256, .f32⟩
  | 12 => ⟨S_, .i32⟩
  | 13 => ⟨S4x2048x8, .i32⟩
  | 14 => ⟨S4x2048x8, .i1⟩
  | 15 => ⟨S_, .i32⟩
  | 16 => ⟨S4x2048x8, .i32⟩
  | 17 => ⟨S4x2048x8, .i32⟩
  | 18 => ⟨S4x2048x8, .i32⟩
  | 19 => ⟨S4x2048x8x1, .i32⟩
  | 20 => ⟨S1, .i32⟩
  | 21 => ⟨S_, .i32⟩
  | 22 => ⟨S4x2048x8x1, .i32⟩
  | 23 => ⟨S4x2048x8x1, .i1⟩
  | 24 => ⟨S1x1x1x1, .i32⟩
  | 25 => ⟨S4x2048x8x1, .i32⟩
  | 26 => ⟨S4x2048x8x1, .i1⟩
  | 27 => ⟨S4x2048x8x1, .i1⟩
  | 28 => ⟨S_, .i1⟩
  | 29 => ⟨S4x2048x8, .i1⟩
  | 30 => ⟨S4x2048x8x256, .f32⟩
  | 31 => ⟨S4x2048x8x256, .i1⟩
  | 32 => ⟨S_, .f32⟩
  | 33 => ⟨S4x2048x8x256, .f32⟩
  | 34 => ⟨S4x2048x8x256, .f32⟩
  | 35 => ⟨S4x2048x1x256, .f32⟩
  | 36 => ⟨S4x2048x256, .f32⟩
  | 37 => ⟨S4x2048x256, .f32⟩
  | 38 => ⟨S_, .f32⟩
  | 39 => ⟨S4x2048, .f32⟩
  | 40 => ⟨S4x2048x1, .f32⟩
  | 41 => ⟨S_, .f32⟩
  | 42 => ⟨S4x2048x1, .f32⟩
  | 43 => ⟨S4x2048x1, .f32⟩
  | 44 => ⟨S4x2048x1, .f32⟩
  | 45 => ⟨S4x2048x256, .f32⟩
  | 46 => ⟨S4x2048x256, .f32⟩
  | 47 => ⟨S4x2048x256, .f32⟩
  | 48 => ⟨S_, .f32⟩
  | 49 => ⟨S4x2048, .f32⟩
  | 50 => ⟨S4x2048x1, .f32⟩
  | 51 => ⟨S_, .f32⟩
  | 52 => ⟨S4x2048x256, .f32⟩
  | 53 => ⟨S4x2048x256, .f32⟩
  | 54 => ⟨S4x2048x256, .f32⟩
  | 55 => ⟨S4x2048x256, .f32⟩
  | 56 => ⟨S4x2048x256, .f32⟩
  | 57 => ⟨S4x2048x1x256, .f32⟩
  | 58 => ⟨S4x2048x256, .f32⟩
  | 59 => ⟨S4x2048x256, .f32⟩
  | 60 => ⟨S_, .f32⟩
  | 61 => ⟨S4x2048, .f32⟩
  | 62 => ⟨S4x2048x1, .f32⟩
  | 63 => ⟨S_, .f32⟩
  | 64 => ⟨S4x2048x1, .f32⟩
  | 65 => ⟨S4x2048x1, .f32⟩
  | 66 => ⟨S4x2048x1, .f32⟩
  | 67 => ⟨S4x2048x256, .f32⟩
  | 68 => ⟨S4x2048x256, .f32⟩
  | 69 => ⟨S4x2048x256, .f32⟩
  | 70 => ⟨S_, .f32⟩
  | 71 => ⟨S4x2048, .f32⟩
  | 72 => ⟨S4x2048x1, .f32⟩
  | 73 => ⟨S_, .f32⟩
  | 74 => ⟨S4x2048x256, .f32⟩
  | 75 => ⟨S4x2048x256, .f32⟩
  | 76 => ⟨S4x2048x256, .f32⟩
  | 77 => ⟨S4x2048x256, .f32⟩
  | 78 => ⟨S4x2048x256, .f32⟩
  | 79 => ⟨S4x2048x1x256, .f32⟩
  | 80 => ⟨S4x2048x256, .f32⟩
  | 81 => ⟨S4x2048x256, .f32⟩
  | 82 => ⟨S_, .f32⟩
  | 83 => ⟨S4x2048, .f32⟩
  | 84 => ⟨S4x2048x1, .f32⟩
  | 85 => ⟨S_, .f32⟩
  | 86 => ⟨S4x2048x1, .f32⟩
  | 87 => ⟨S4x2048x1, .f32⟩
  | 88 => ⟨S4x2048x1, .f32⟩
  | 89 => ⟨S4x2048x256, .f32⟩
  | 90 => ⟨S4x2048x256, .f32⟩
  | 91 => ⟨S4x2048x256, .f32⟩
  | 92 => ⟨S_, .f32⟩
  | 93 => ⟨S4x2048, .f32⟩
  | 94 => ⟨S4x2048x1, .f32⟩
  | 95 => ⟨S_, .f32⟩
  | 96 => ⟨S4x2048x256, .f32⟩
  | 97 => ⟨S4x2048x256, .f32⟩
  | 98 => ⟨S4x2048x256, .f32⟩
  | 99 => ⟨S4x2048x256, .f32⟩
  | 100 => ⟨S4x2048x256, .f32⟩
  | 101 => ⟨S4x2048x1x256, .f32⟩
  | 102 => ⟨S4x2048x256, .f32⟩
  | 103 => ⟨S4x2048x256, .f32⟩
  | 104 => ⟨S_, .f32⟩
  | 105 => ⟨S4x2048, .f32⟩
  | 106 => ⟨S4x2048x1, .f32⟩
  | 107 => ⟨S_, .f32⟩
  | 108 => ⟨S4x2048x1, .f32⟩
  | 109 => ⟨S4x2048x1, .f32⟩
  | 110 => ⟨S4x2048x1, .f32⟩
  | 111 => ⟨S4x2048x256, .f32⟩
  | 112 => ⟨S4x2048x256, .f32⟩
  | 113 => ⟨S4x2048x256, .f32⟩
  | 114 => ⟨S_, .f32⟩
  | 115 => ⟨S4x2048, .f32⟩
  | 116 => ⟨S4x2048x1, .f32⟩
  | 117 => ⟨S_, .f32⟩
  | 118 => ⟨S4x2048x256, .f32⟩
  | 119 => ⟨S4x2048x256, .f32⟩
  | 120 => ⟨S4x2048x256, .f32⟩
  | 121 => ⟨S4x2048x256, .f32⟩
  | 122 => ⟨S4x2048x256, .f32⟩
  | 123 => ⟨S4x2048x1x256, .f32⟩
  | 124 => ⟨S4x2048x256, .f32⟩
  | 125 => ⟨S4x2048x256, .f32⟩
  | 126 => ⟨S_, .f32⟩
  | 127 => ⟨S4x2048, .f32⟩
  | _ => ⟨S4x2048x2048, .f32⟩

abbrev hbmTy0_1 (i : Nat) : BufTy := match i % 128 with
  | 0 => ⟨S4x2048x1, .f32⟩
  | 1 => ⟨S_, .f32⟩
  | 2 => ⟨S4x2048x1, .f32⟩
  | 3 => ⟨S4x2048x1, .f32⟩
  | 4 => ⟨S4x2048x1, .f32⟩
  | 5 => ⟨S4x2048x256, .f32⟩
  | 6 => ⟨S4x2048x256, .f32⟩
  | 7 => ⟨S4x2048x256, .f32⟩
  | 8 => ⟨S_, .f32⟩
  | 9 => ⟨S4x2048, .f32⟩
  | 10 => ⟨S4x2048x1, .f32⟩
  | 11 => ⟨S_, .f32⟩
  | 12 => ⟨S4x2048x256, .f32⟩
  | 13 => ⟨S4x2048x256, .f32⟩
  | 14 => ⟨S4x2048x256, .f32⟩
  | 15 => ⟨S4x2048x256, .f32⟩
  | 16 => ⟨S4x2048x256, .f32⟩
  | 17 => ⟨S4x2048x1x256, .f32⟩
  | 18 => ⟨S4x2048x256, .f32⟩
  | 19 => ⟨S4x2048x256, .f32⟩
  | 20 => ⟨S_, .f32⟩
  | 21 => ⟨S4x2048, .f32⟩
  | 22 => ⟨S4x2048x1, .f32⟩
  | 23 => ⟨S_, .f32⟩
  | 24 => ⟨S4x2048x1, .f32⟩
  | 25 => ⟨S4x2048x1, .f32⟩
  | 26 => ⟨S4x2048x1, .f32⟩
  | 27 => ⟨S4x2048x256, .f32⟩
  | 28 => ⟨S4x2048x256, .f32⟩
  | 29 => ⟨S4x2048x256, .f32⟩
  | 30 => ⟨S_, .f32⟩
  | 31 => ⟨S4x2048, .f32⟩
  | 32 => ⟨S4x2048x1, .f32⟩
  | 33 => ⟨S_, .f32⟩
  | 34 => ⟨S4x2048x256, .f32⟩
  | 35 => ⟨S4x2048x256, .f32⟩
  | 36 => ⟨S4x2048x256, .f32⟩
  | 37 => ⟨S4x2048x256, .f32⟩
  | 38 => ⟨S4x2048x256, .f32⟩
  | 39 => ⟨S4x2048x1x256, .f32⟩
  | 40 => ⟨S4x2048x256, .f32⟩
  | 41 => ⟨S4x2048x256, .f32⟩
  | 42 => ⟨S_, .f32⟩
  | 43 => ⟨S4x2048, .f32⟩
  | 44 => ⟨S4x2048x1, .f32⟩
  | 45 => ⟨S_, .f32⟩
  | 46 => ⟨S4x2048x1, .f32⟩
  | 47 => ⟨S4x2048x1, .f32⟩
  | 48 => ⟨S4x2048x1, .f32⟩
  | 49 => ⟨S4x2048x256, .f32⟩
  | 50 => ⟨S4x2048x256, .f32⟩
  | 51 => ⟨S4x2048x256, .f32⟩
  | 52 => ⟨S_, .f32⟩
  | 53 => ⟨S4x2048, .f32⟩
  | 54 => ⟨S4x2048x1, .f32⟩
  | 55 => ⟨S_, .f32⟩
  | 56 => ⟨S4x2048x256, .f32⟩
  | 57 => ⟨S4x2048x256, .f32⟩
  | 58 => ⟨S4x2048x256, .f32⟩
  | 59 => ⟨S4x2048x256, .f32⟩
  | 60 => ⟨S4x2048x256, .f32⟩
  | 61 => ⟨S4x2048x1x256, .f32⟩
  | 62 => ⟨S4x2048x256, .f32⟩
  | 63 => ⟨S4x2048x256, .f32⟩
  | 64 => ⟨S_, .f32⟩
  | 65 => ⟨S4x2048, .f32⟩
  | 66 => ⟨S4x2048x1, .f32⟩
  | 67 => ⟨S_, .f32⟩
  | 68 => ⟨S4x2048x1, .f32⟩
  | 69 => ⟨S4x2048x1, .f32⟩
  | 70 => ⟨S4x2048x1, .f32⟩
  | 71 => ⟨S4x2048x256, .f32⟩
  | 72 => ⟨S4x2048x256, .f32⟩
  | 73 => ⟨S4x2048x256, .f32⟩
  | 74 => ⟨S_, .f32⟩
  | 75 => ⟨S4x2048, .f32⟩
  | 76 => ⟨S4x2048x1, .f32⟩
  | 77 => ⟨S_, .f32⟩
  | 78 => ⟨S4x2048x256, .f32⟩
  | 79 => ⟨S4x2048x256, .f32⟩
  | 80 => ⟨S4x2048x256, .f32⟩
  | 81 => ⟨S4x2048x256, .f32⟩
  | 82 => ⟨S4x2048x256, .f32⟩
  | 83 => ⟨S8192x256, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_0 : Ref sig .tc := ⟨.hbm, 38, rfl⟩
abbrev main_v9 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_2 : Ref sig .tc := ⟨.hbm, 48, rfl⟩
abbrev main_v17 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_6 : Ref sig .tc := ⟨.hbm, 70, rfl⟩
abbrev main_v35 : Ref sig .tc := ⟨.hbm, 71, rfl⟩
abbrev main_v36 : Ref sig .tc := ⟨.hbm, 72, rfl⟩
abbrev main_cst_7 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_8 : Ref sig .tc := ⟨.hbm, 82, rfl⟩
abbrev main_v45 : Ref sig .tc := ⟨.hbm, 83, rfl⟩
abbrev main_v46 : Ref sig .tc := ⟨.hbm, 84, rfl⟩
abbrev main_cst_9 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_10 : Ref sig .tc := ⟨.hbm, 92, rfl⟩
abbrev main_v53 : Ref sig .tc := ⟨.hbm, 93, rfl⟩
abbrev main_v54 : Ref sig .tc := ⟨.hbm, 94, rfl⟩
abbrev main_cst_11 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_12 : Ref sig .tc := ⟨.hbm, 104, rfl⟩
abbrev main_v63 : Ref sig .tc := ⟨.hbm, 105, rfl⟩
abbrev main_v64 : Ref sig .tc := ⟨.hbm, 106, rfl⟩
abbrev main_cst_13 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_14 : Ref sig .tc := ⟨.hbm, 114, rfl⟩
abbrev main_v71 : Ref sig .tc := ⟨.hbm, 115, rfl⟩
abbrev main_v72 : Ref sig .tc := ⟨.hbm, 116, rfl⟩
abbrev main_cst_15 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_16 : Ref sig .tc := ⟨.hbm, 126, rfl⟩
abbrev main_v81 : Ref sig .tc := ⟨.hbm, 127, rfl⟩
abbrev main_v82 : Ref sig .tc := ⟨.hbm, 128, rfl⟩
abbrev main_cst_17 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_18 : Ref sig .tc := ⟨.hbm, 136, rfl⟩
abbrev main_v89 : Ref sig .tc := ⟨.hbm, 137, rfl⟩
abbrev main_v90 : Ref sig .tc := ⟨.hbm, 138, rfl⟩
abbrev main_cst_19 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_20 : Ref sig .tc := ⟨.hbm, 148, rfl⟩
abbrev main_v99 : Ref sig .tc := ⟨.hbm, 149, rfl⟩
abbrev main_v100 : Ref sig .tc := ⟨.hbm, 150, rfl⟩
abbrev main_cst_21 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_22 : Ref sig .tc := ⟨.hbm, 158, rfl⟩
abbrev main_v107 : Ref sig .tc := ⟨.hbm, 159, rfl⟩
abbrev main_v108 : Ref sig .tc := ⟨.hbm, 160, rfl⟩
abbrev main_cst_23 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_24 : Ref sig .tc := ⟨.hbm, 170, rfl⟩
abbrev main_v117 : Ref sig .tc := ⟨.hbm, 171, rfl⟩
abbrev main_v118 : Ref sig .tc := ⟨.hbm, 172, rfl⟩
abbrev main_cst_25 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_26 : Ref sig .tc := ⟨.hbm, 180, rfl⟩
abbrev main_v125 : Ref sig .tc := ⟨.hbm, 181, rfl⟩
abbrev main_v126 : Ref sig .tc := ⟨.hbm, 182, rfl⟩
abbrev main_cst_27 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_28 : Ref sig .tc := ⟨.hbm, 192, rfl⟩
abbrev main_v135 : Ref sig .tc := ⟨.hbm, 193, rfl⟩
abbrev main_v136 : Ref sig .tc := ⟨.hbm, 194, rfl⟩
abbrev main_cst_29 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_cst_30 : Ref sig .tc := ⟨.hbm, 202, rfl⟩
abbrev main_v143 : Ref sig .tc := ⟨.hbm, 203, rfl⟩
abbrev main_v144 : Ref sig .tc := ⟨.hbm, 204, rfl⟩
abbrev main_cst_31 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩

abbrev nD : Nat := 1
abbrev τ : Topo := Topo.v7x

variable {F : FTy → Type} [FloatOps F]
-- ==== Proof.Body.lean ====
/- What one run of the kernel body does, on any whole staging memrefs, in the three cases its branch conditions leave. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch runs at the first point. -/
abbrev isFirst (i : grid0.Coords) : Prop := (Scalar.cmpi .ne (Scalar.extui (Scalar.cmpi .eq (BitVec.ofNat 32 (i 0).val) 0#32)) 0#32) = 1#1

/-- The half of the block scratch that a point's store addresses: the point's parity. -/
theorem off1_eq (i : grid0.Coords) : k0_off1 i = ![(i 0).val % 2, 0, 0] := by
  have key : ∀ v : Fin (grid0.bound 0), k0_off1 (Fin.cons v fun a => a.elim0) = ![v.val % 2, 0, 0] := by decide +kernel
  exact key (i 0)

/-- The half that a point's load addresses: the other one. -/
theorem off2_eq (i : grid0.Coords) : k0_off2 i = ![((i 0).val + 1) % 2, 0, 0] := by
  have key : ∀ v : Fin (grid0.bound 0), k0_off2 (Fin.cons v fun a => a.elim0) = ![(v.val + 1) % 2, 0, 0] := by decide +kernel
  exact key (i 0)

instance closedOff1 (i : grid0.Coords) : ClosedOff (k0_off1 i) := ⟨![(i 0).val % 2, 0, 0], off1_eq i⟩
instance closedOff2 (i : grid0.Coords) : ClosedOff (k0_off2 i) := ⟨![((i 0).val + 1) % 2, 0, 0], off2_eq i⟩

/-- One expert's weights, as the body loads them from the packed scratch. -/
abbrev expert (ws : Vec F S8x2048x256 .bf16) (n : ℕ) (inb : ∀ a, (![n, 0, 0] : Fin S8x2048x256.rank → ℕ) a + S1x2048x256.size a ≤ S8x2048x256.size a) : Vec F S1x2048x256 .bf16 :=
  View.ld ws (Rect.unit ![n, 0, 0] S1x2048x256.size inb)

/-- The dense block of a point: what it computes from its block of `x`, its block of weights and the packed experts. -/
def dense (x : Vec F S1024x2048 .f32) (w : Vec F S1024x8 .f32) (ws : Vec F S8x2048x256 .bf16) : FVec F S1024x256 .f32 :=
  k0_pay8 (k0_pay4 x) (k0_pay5 w)
    (k0_pay6 x w (expert ws 0 inb_S8x2048x256_S1x2048x256_0_0_0) (expert ws 1 inb_S8x2048x256_S1x2048x256_1_0_0)
      (expert ws 2 inb_S8x2048x256_S1x2048x256_2_0_0) (expert ws 3 inb_S8x2048x256_S1x2048x256_3_0_0))
    (k0_pay7 (expert ws 4 inb_S8x2048x256_S1x2048x256_4_0_0)) (expert ws 5 inb_S8x2048x256_S1x2048x256_5_0_0)
    (expert ws 6 inb_S8x2048x256_S1x2048x256_6_0_0) (expert ws 7 inb_S8x2048x256_S1x2048x256_7_0_0)

/-- The column of class numbers the one-hot rows are compared with. -/
def classes : IVec S32x1 32 := iota .tc S32x1 32 [0] iota_S32x1_d0_w32

/-- The projections after three reflections. -/
def mid88 (h : Vec F S1x1024x256 .f32) (ix : Vec F S8x1024 .i32) (p : Vec F S32x256 .f32) : FVec F S32x1024 .f32 :=
  k0_pay23 (k0_pay10 ix) (k0_pay12 p) (k0_pay13 h p) classes (k0_pay15 ix) (k0_pay16 h ix p)
/-- The coefficients after three reflections. -/
def mid91 (h : Vec F S1x1024x256 .f32) (ix : Vec F S8x1024 .i32) (p : Vec F S32x256 .f32) : FVec F S32x1024 .f32 :=
  k0_pay24 (k0_pay10 ix) (k0_pay12 p) (k0_pay13 h p) k0_pay14 classes (k0_pay15 ix) (k0_pay16 h ix p)
/-- The fourth reflection's one-hot rows. -/
def mid97 (ix : Vec F S8x1024 .i32) : FVec F S32x1024 .f32 := k0_pay25 (k0_pay10 ix) classes
/-- The fourth reflection's selected projection. -/
def mid100 (h : Vec F S1x1024x256 .f32) (ix : Vec F S8x1024 .i32) (p : Vec F S32x256 .f32) : FVec F S1x1024 .f32 :=
  k0_pay26 (k0_pay10 ix) (k0_pay12 p) (k0_pay13 h p) classes (k0_pay15 ix) (k0_pay16 h ix p)

/-- The reflected block: what a point stores in the output's block, from the dense block held in a half of the
scratch, the block of indices and the reflection vectors. -/
def house (h : Vec F S1x1024x256 .f32) (ix : Vec F S8x1024 .i32) (p : Vec F S32x256 .f32) : FVec F S1024x256 .f32 :=
  k0_pay3 (k0_pay9 h) (k0_pay10 ix) (k0_pay11 p) (k0_pay12 p) classes
    (k0_pay34 (k0_pay10 ix) (k0_pay12 p) classes (mid88 h ix p) (mid97 ix) (mid100 h ix p))
    (k0_pay35 (k0_pay10 ix) (k0_pay12 p) classes (mid88 h ix p) (mid91 h ix p) (mid97 ix) (mid100 h ix p))
    (k0_pay36 (k0_pay10 ix) classes)
    (k0_pay37 (k0_pay10 ix) (k0_pay12 p) classes (mid88 h ix p) (mid97 ix) (mid100 h ix p))

theorem half_inb (s : ℕ) (a : Fin S2x1024x256.rank) : (![s % 2, 0, 0] : Fin S2x1024x256.rank → ℕ) a + S1x1024x256.size a ≤ S2x1024x256.size a := by
  have := Nat.mod_lt s (show 2 > 0 by decide)
  fin_cases a
  · show s % 2 + 1 ≤ 2; omega
  · show 0 + 1024 ≤ 1024; omega
  · show 0 + 256 ≤ 256; omega

/-- The half of the block scratch of a parity. -/
def half (h : Vec F S2x1024x256 .f32) (s : ℕ) : Vec F S1x1024x256 .f32 :=
  View.ld h (Rect.unit ![s % 2, 0, 0] S1x1024x256.size (half_inb s))

theorem readAt_unread {s : Shape} {e : EltTy} {m : Memref sig .tc .vmem s e} (hm : m.IsWhole) (X : Vec F s e) (B : Rect s) :
    View.readAt (Elt F) m.view B.toLoadRect (hm.unread X) = View.ld X B := funext fun x => hm.readAt_unread X B.toLoadRect x

theorem ld_off2 (h : Vec F S2x1024x256 .f32) (i : grid0.Coords) (inb) :
    View.ld h (Rect.unit (k0_off2 i) S1x1024x256.size inb) = half h ((i 0).val + 1) := by
  unfold half
  congr 2
  simp only [off2_eq]

theorem ld_off1 (h : Vec F S2x1024x256 .f32) (i : grid0.Coords) (inb) :
    View.ld h (Rect.unit (k0_off1 i) S1x1024x256.size inb) = half h (i 0).val := by
  unfold half
  congr 2
  simp only [off1_eq]

theorem ld_full {s : Shape} {e : EltTy} (X : Vec F s e) (off : Fin s.rank → ℕ) (h0 : ∀ a, off a = 0) (inb) :
    View.ld X (Rect.unit off s.size inb) = X := by
  funext y
  show X _ = X y
  congr 1
  funext a
  apply Fin.ext
  show off a + 1 * (y a).val = (y a).val
  rw [h0 a]; omega

set_option maxHeartbeats 1600000 in
/-- A middle point: it reflects the half the point before filled, and fills the other half; the pieces it leaves in the output's memref and in the block scratch. -/
def runMid (c : Dev nD) (i : grid0.Coords) (arg1 : Memref sig .tc .vmem S1024x2048 .f32) (harg1 : arg1.IsWhole) (arg2 : Memref sig .tc .vmem S1024x8 .f32) (harg2 : arg2.IsWhole) (arg3 : Memref sig .tc .vmem S8x1024 .i32) (harg3 : arg3.IsWhole) (arg4 : Memref sig .tc .vmem S8x2048x256 .f32) (harg4 : arg4.IsWhole) (arg5 : Memref sig .tc .vmem S32x256 .f32) (harg5 : arg5.IsWhole) (arg6 : Memref sig .tc .vmem S1024x256 .f32) (harg6 : arg6.IsWhole) (arg7 : Memref sig .tc .vmem S8x2048x256 .bf16) (harg7 : arg7.IsWhole) (arg8 : Memref sig .tc .vmem S2x1024x256 .f32) (harg8 : arg8.IsWhole)
    (hc1 : ¬ isFirst i) (hc2 : k0_cond2 i = 1#1) (hc3 : k0_cond3 i = 1#1)
    (x : Vec F S1024x2048 .f32) (w : Vec F S1024x8 .f32) (ix : Vec F S8x1024 .i32) (wn : Vec F S8x2048x256 .f32) (p : Vec F S32x256 .f32)
    (ws : Vec F S8x2048x256 .bf16) (h : Vec F S2x1024x256 .f32) :
    Σ' (L6 : List (View.Piece (Elt F) S1024x256 .f32)), { L8 : List (View.Piece (Elt F) S2x1024x256 .f32) // ∀ (E : Set ℕ) (K : PUnit → sProp 𝕄),
    iprop(owns (c : Thread nD τ) arg1 fullShare x ∗ owns (c : Thread nD τ) arg2 fullShare w ∗ owns (c : Thread nD τ) arg3 fullShare ix ∗ owns (c : Thread nD τ) arg4 fullShare wn ∗ owns (c : Thread nD τ) arg5 fullShare p ∗ (∃ d, owns (c : Thread nD τ) arg6 fullShare d) ∗ owns (c : Thread nD τ) arg7 fullShare ws ∗ owns (c : Thread nD τ) arg8 fullShare h
        ∗ (iprop(owns (c : Thread nD τ) arg1 fullShare x ∗ owns (c : Thread nD τ) arg2 fullShare w ∗ owns (c : Thread nD τ) arg3 fullShare ix ∗ owns (c : Thread nD τ) arg4 fullShare wn ∗ owns (c : Thread nD τ) arg5 fullShare p ∗ (∃ f, arg6.view.loc (c : Thread nD τ) ↦[arg6.view.set]{fullShare} arg6.view.writes (Elt F) f L6) ∗ owns (c : Thread nD τ) arg7 fullShare ws ∗ arg8.view.loc (c : Thread nD τ) ↦[arg8.view.set]{fullShare} arg8.view.writes (Elt F) (harg8.unread h) L8) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8) K } := by
  refine ⟨?_, ?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5
    obtain rfl := harg7.eq_unread hf7; obtain rfl := harg8.eq_unread hf8
    sl_exec (disch := first | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; isplitr; · ipureintro; exact harg7.read_unread _
      iexact H7
    iexact H8

set_option maxHeartbeats 1600000 in
/-- The first point: it packs the experts' weights, and fills its half; the pieces it leaves in the two scratch memrefs. The output's memref is left alone. -/
def runFirst (c : Dev nD) (i : grid0.Coords) (arg1 : Memref sig .tc .vmem S1024x2048 .f32) (harg1 : arg1.IsWhole) (arg2 : Memref sig .tc .vmem S1024x8 .f32) (harg2 : arg2.IsWhole) (arg3 : Memref sig .tc .vmem S8x1024 .i32) (harg3 : arg3.IsWhole) (arg4 : Memref sig .tc .vmem S8x2048x256 .f32) (harg4 : arg4.IsWhole) (arg5 : Memref sig .tc .vmem S32x256 .f32) (harg5 : arg5.IsWhole) (arg6 : Memref sig .tc .vmem S1024x256 .f32) (harg6 : arg6.IsWhole) (arg7 : Memref sig .tc .vmem S8x2048x256 .bf16) (harg7 : arg7.IsWhole) (arg8 : Memref sig .tc .vmem S2x1024x256 .f32) (harg8 : arg8.IsWhole)
    (hc1 : isFirst i) (hc2 : k0_cond2 i = 1#1) (hc3 : ¬ k0_cond3 i = 1#1)
    (x : Vec F S1024x2048 .f32) (w : Vec F S1024x8 .f32) (ix : Vec F S8x1024 .i32) (wn : Vec F S8x2048x256 .f32) (p : Vec F S32x256 .f32)
    (o : Vec F S1024x256 .f32) :
    Σ' (L7 : List (View.Piece (Elt F) S8x2048x256 .bf16)), { L8 : List (View.Piece (Elt F) S2x1024x256 .f32) // ∀ (E : Set ℕ) (K : PUnit → sProp 𝕄),
    iprop(owns (c : Thread nD τ) arg1 fullShare x ∗ owns (c : Thread nD τ) arg2 fullShare w ∗ owns (c : Thread nD τ) arg3 fullShare ix ∗ owns (c : Thread nD τ) arg4 fullShare wn ∗ owns (c : Thread nD τ) arg5 fullShare p ∗ owns (c : Thread nD τ) arg6 fullShare o ∗ (∃ d, owns (c : Thread nD τ) arg7 fullShare d) ∗ (∃ d, owns (c : Thread nD τ) arg8 fullShare d)
        ∗ (iprop(owns (c : Thread nD τ) arg1 fullShare x ∗ owns (c : Thread nD τ) arg2 fullShare w ∗ owns (c : Thread nD τ) arg3 fullShare ix ∗ owns (c : Thread nD τ) arg4 fullShare wn ∗ owns (c : Thread nD τ) arg5 fullShare p ∗ owns (c : Thread nD τ) arg6 fullShare o ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8) K } := by
  refine ⟨?_, ?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6
    sl_exec (disch := first | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    iexists _; iexact H8

set_option maxHeartbeats 1600000 in
/-- The last point: it reflects the half the point before filled; the pieces it leaves in the output's memref. -/
def runLast (c : Dev nD) (i : grid0.Coords) (arg1 : Memref sig .tc .vmem S1024x2048 .f32) (harg1 : arg1.IsWhole) (arg2 : Memref sig .tc .vmem S1024x8 .f32) (harg2 : arg2.IsWhole) (arg3 : Memref sig .tc .vmem S8x1024 .i32) (harg3 : arg3.IsWhole) (arg4 : Memref sig .tc .vmem S8x2048x256 .f32) (harg4 : arg4.IsWhole) (arg5 : Memref sig .tc .vmem S32x256 .f32) (harg5 : arg5.IsWhole) (arg6 : Memref sig .tc .vmem S1024x256 .f32) (harg6 : arg6.IsWhole) (arg7 : Memref sig .tc .vmem S8x2048x256 .bf16) (harg7 : arg7.IsWhole) (arg8 : Memref sig .tc .vmem S2x1024x256 .f32) (harg8 : arg8.IsWhole)
    (hc1 : ¬ isFirst i) (hc2 : ¬ k0_cond2 i = 1#1) (hc3 : k0_cond3 i = 1#1)
    (x : Vec F S1024x2048 .f32) (w : Vec F S1024x8 .f32) (ix : Vec F S8x1024 .i32) (wn : Vec F S8x2048x256 .f32) (p : Vec F S32x256 .f32)
    (ws : Vec F S8x2048x256 .bf16) (h : Vec F S2x1024x256 .f32) :
    { L6 : List (View.Piece (Elt F) S1024x256 .f32) // ∀ (E : Set ℕ) (K : PUnit → sProp 𝕄),
    iprop(owns (c : Thread nD τ) arg1 fullShare x ∗ owns (c : Thread nD τ) arg2 fullShare w ∗ owns (c : Thread nD τ) arg3 fullShare ix ∗ owns (c : Thread nD τ) arg4 fullShare wn ∗ owns (c : Thread nD τ) arg5 fullShare p ∗ (∃ d, owns (c : Thread nD τ) arg6 fullShare d) ∗ owns (c : Thread nD τ) arg7 fullShare ws ∗ owns (c : Thread nD τ) arg8 fullShare h
        ∗ (iprop(owns (c : Thread nD τ) arg1 fullShare x ∗ owns (c : Thread nD τ) arg2 fullShare w ∗ owns (c : Thread nD τ) arg3 fullShare ix ∗ owns (c : Thread nD τ) arg4 fullShare wn ∗ owns (c : Thread nD τ) arg5 fullShare p ∗ (∃ f, arg6.view.loc (c : Thread nD τ) ↦[arg6.view.set]{fullShare} arg6.view.writes (Elt F) f L6) ∗ owns (c : Thread nD τ) arg7 fullShare ws ∗ owns (c : Thread nD τ) arg8 fullShare h) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8) K } := by
  refine ⟨?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5
    obtain rfl := harg7.eq_unread hf7; obtain rfl := harg8.eq_unread hf8
    sl_exec (disch := first | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; isplitr; · ipureintro; exact harg7.read_unread _
      iexact H7
    iexists _; isplitr; · ipureintro; exact harg8.read_unread _
    iexact H8

end Cert.KernelIdeal.Body
end
-- ==== Proof.Values.lean ====
/- The values the three runs of the body leave, read back from the pieces they store. -/
module

public import proofs.«01_k».proof.Proof.Body

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem readCov_one {s : Shape} {e : EltTy} (v : View sig .tc .vmem s e) {off : Fin s.rank → ℕ} (inb : ∀ a, off a + s.size a ≤ s.size a)
    (w : (Rect.unit off s.size inb).shape.Idx → Elt F e) (B : Rect s) :
    v.readCov (Val := Elt F) [⟨Rect.unit off s.size inb, w⟩] B.toLoadRect = View.ld w B := by
  show v.readAt (Elt F) B.toLoadRect (v.writes (Elt F) v.junk [⟨Rect.unit off s.size inb, w⟩]) = _
  rw [View.readAt_eq_ld, View.read_writes_full]
theorem ld_x (X : Vec F S1024x2048 .f32) (inb) : View.ld X (Rect.unit (s := S1024x2048) ![0, 0] ![1024, 2048] inb) = X := ld_full X ![0, 0] (by decide) inb
theorem ld_w (X : Vec F S1024x8 .f32) (inb) : View.ld X (Rect.unit (s := S1024x8) ![0, 0] ![1024, 8] inb) = X := ld_full X ![0, 0] (by decide) inb
theorem ld_ix (X : Vec F S8x1024 .i32) (inb) : View.ld X (Rect.unit (s := S8x1024) ![0, 0] ![8, 1024] inb) = X := ld_full X ![0, 0] (by decide) inb
theorem ld_p (X : Vec F S32x256 .f32) (inb) : View.ld X (Rect.unit (s := S32x256) ![0, 0] ![32, 256] inb) = X := ld_full X ![0, 0] (by decide) inb
theorem ld_wn (X : Vec F S8x2048x256 .f32) (inb) : View.ld X (Rect.unit (s := S8x2048x256) ![0, 0, 0] ![8, 2048, 256] inb) = X := ld_full X ![0, 0, 0] (by decide) inb
theorem ld_h (h : Vec F S2x1024x256 .f32) (i : grid0.Coords) (inb) : View.ld h (Rect.unit (s := S2x1024x256) (k0_off2 i) ![1, 1024, 256] inb) = half h ((i 0).val + 1) := ld_off2 h i inb

theorem readCov_pack (v : View sig .tc .vmem S8x2048x256 .bf16) (inb) (w : Vec F S8x2048x256 .bf16) (off : Fin S8x2048x256.rank → ℕ) (inb') :
    v.readCov (Val := Elt F) [⟨Rect.unit (s := S8x2048x256) ![0, 0, 0] ![8, 2048, 256] inb, w⟩] (Rect.unit (s := S8x2048x256) off ![1, 2048, 256] inb').toLoadRect
      = View.ld w (Rect.unit (s := S8x2048x256) off ![1, 2048, 256] inb') := readCov_one v inb w _

/-- The load of the other half reads through the store into this one. -/
theorem readAt_through (v : View sig .tc .vmem S2x1024x256 .f32) (f : v.ty.Contents (Elt F)) (i : grid0.Coords) (inb inb')
    (w : (Rect.unit (s := S2x1024x256) (k0_off1 i) S1x1024x256.size inb).shape.Idx → Elt F .f32) :
    v.readAt (Elt F) (Rect.unit (s := S2x1024x256) (k0_off2 i) S1x1024x256.size inb').toLoadRect (v.writes (Elt F) f [⟨Rect.unit (s := S2x1024x256) (k0_off1 i) S1x1024x256.size inb, w⟩])
      = half (v.read (Elt F) f) ((i 0).val + 1) := by
  rw [View.readAt_writes_of_forall_not_mem, View.readAt_eq_ld, ld_off2]
  intro j q hq hm
  rw [List.mem_singleton] at hq
  subst hq
  have h1 := (Rect.mem_set_unit (inb := inb)).1 hm 0
  have h2 : (k0_off2 i) 0 = ((i 0).val + 1) % 2 := congrFun (off2_eq i) 0
  have h3 : (k0_off1 i) 0 = (i 0).val % 2 := congrFun (off1_eq i) 0
  have h4 : (j 0).val < 1 := (j 0).isLt
  have h5 : ((((Rect.unit (s := S2x1024x256) (k0_off2 i) S1x1024x256.size inb').toLoadRect).idx j) 0).val = (k0_off2 i) 0 + 1 * (j 0).val := rfl
  have h6 : S1x1024x256.size 0 = 1 := rfl
  rw [h5, h2, h3, h6] at h1
  omega

/-- What the stored half reads back as. -/
theorem half_writes (v : View sig .tc .vmem S2x1024x256 .f32) (f : v.ty.Contents (Elt F)) (i : grid0.Coords) (inb)
    (w : (Rect.unit (s := S2x1024x256) (k0_off1 i) S1x1024x256.size inb).shape.Idx → Elt F .f32) :
    half (v.read (Elt F) (v.writes (Elt F) f [⟨Rect.unit (s := S2x1024x256) (k0_off1 i) S1x1024x256.size inb, w⟩])) (i 0).val = w := by
  rw [← ld_off1 _ i inb]
  funext y
  exact View.read_writes_cons_emb v f _ w [] y

theorem mid_out (c : Dev nD) (i : grid0.Coords) (arg1 : Memref sig .tc .vmem S1024x2048 .f32) (harg1 : arg1.IsWhole) (arg2 : Memref sig .tc .vmem S1024x8 .f32) (harg2 : arg2.IsWhole) (arg3 : Memref sig .tc .vmem S8x1024 .i32) (harg3 : arg3.IsWhole) (arg4 : Memref sig .tc .vmem S8x2048x256 .f32) (harg4 : arg4.IsWhole) (arg5 : Memref sig .tc .vmem S32x256 .f32) (harg5 : arg5.IsWhole) (arg6 : Memref sig .tc .vmem S1024x256 .f32) (harg6 : arg6.IsWhole) (arg7 : Memref sig .tc .vmem S8x2048x256 .bf16) (harg7 : arg7.IsWhole) (arg8 : Memref sig .tc .vmem S2x1024x256 .f32) (harg8 : arg8.IsWhole)
    (hc1 : ¬ isFirst i) (hc2 : k0_cond2 i = 1#1) (hc3 : k0_cond3 i = 1#1)
    (x : Vec F S1024x2048 .f32) (w : Vec F S1024x8 .f32) (ix : Vec F S8x1024 .i32) (wn : Vec F S8x2048x256 .f32) (p : Vec F S32x256 .f32)
    (ws : Vec F S8x2048x256 .bf16) (h : Vec F S2x1024x256 .f32) (v : View sig .tc .vmem S1024x256 .f32) (f : v.ty.Contents (Elt F)) :
    v.read (Elt F) (v.writes (Elt F) f (runMid c i arg1 harg1 arg2 harg2 arg3 harg3 arg4 harg4 arg5 harg5 arg6 harg6 arg7 harg7 arg8 harg8 hc1 hc2 hc3 x w ix wn p ws h).1) = house (half h ((i 0).val + 1)) ix p := by
  unfold runMid
  dsimp only
  refine (View.read_writes_full v f _ _ []).trans ?_
  have e21 : ∀ inb, View.readAt (Elt F) arg8.view (Rect.unit (s := S2x1024x256) (k0_off2 i) ![1, 1024, 256] inb).toLoadRect
      (arg8.view.writes (Elt F) (harg8.unread h) (runMid.sl.H8_1 c i arg1 harg1 arg2 harg2 arg7 harg7 hc2 x w ws)) = half h ((i 0).val + 1) :=
    fun inb => (readAt_through arg8.view _ i _ _ _).trans (by rw [harg8.read_unread])
  simp only [runMid.sl.r, runMid.sl.r_5, runMid.sl.r_6, runMid.sl.r_7, runMid.sl.r_8, runMid.sl.r_9, runMid.sl.r_10, runMid.sl.r_11, runMid.sl.r_12, runMid.sl.r_13, runMid.sl.r_14, runMid.sl.r_15, runMid.sl.r_16, runMid.sl.r_17, runMid.sl.r_18, runMid.sl.r_19, runMid.sl.v37, readAt_unread, e21]
  simp only [ld_x, ld_w, ld_ix, ld_p, ld_wn, readCov_pack]
  rfl

theorem mid_half (c : Dev nD) (i : grid0.Coords) (arg1 : Memref sig .tc .vmem S1024x2048 .f32) (harg1 : arg1.IsWhole) (arg2 : Memref sig .tc .vmem S1024x8 .f32) (harg2 : arg2.IsWhole) (arg3 : Memref sig .tc .vmem S8x1024 .i32) (harg3 : arg3.IsWhole) (arg4 : Memref sig .tc .vmem S8x2048x256 .f32) (harg4 : arg4.IsWhole) (arg5 : Memref sig .tc .vmem S32x256 .f32) (harg5 : arg5.IsWhole) (arg6 : Memref sig .tc .vmem S1024x256 .f32) (harg6 : arg6.IsWhole) (arg7 : Memref sig .tc .vmem S8x2048x256 .bf16) (harg7 : arg7.IsWhole) (arg8 : Memref sig .tc .vmem S2x1024x256 .f32) (harg8 : arg8.IsWhole)
    (hc1 : ¬ isFirst i) (hc2 : k0_cond2 i = 1#1) (hc3 : k0_cond3 i = 1#1)
    (x : Vec F S1024x2048 .f32) (w : Vec F S1024x8 .f32) (ix : Vec F S8x1024 .i32) (wn : Vec F S8x2048x256 .f32) (p : Vec F S32x256 .f32)
    (ws : Vec F S8x2048x256 .bf16) (h : Vec F S2x1024x256 .f32) (v : View sig .tc .vmem S2x1024x256 .f32) (f : v.ty.Contents (Elt F)) :
    half (v.read (Elt F) (v.writes (Elt F) f (runMid c i arg1 harg1 arg2 harg2 arg3 harg3 arg4 harg4 arg5 harg5 arg6 harg6 arg7 harg7 arg8 harg8 hc1 hc2 hc3 x w ix wn p ws h).2.1)) (i 0).val = k0_pay2 (dense x w ws) := by
  unfold runMid
  dsimp only
  refine (half_writes v f i _ _).trans ?_
  simp only [runMid.sl.r, runMid.sl.r_1, runMid.sl.r_2, runMid.sl.r_3, runMid.sl.r_4, readAt_unread, ld_x, ld_w]
  rfl

theorem first_pack (c : Dev nD) (i : grid0.Coords) (arg1 : Memref sig .tc .vmem S1024x2048 .f32) (harg1 : arg1.IsWhole) (arg2 : Memref sig .tc .vmem S1024x8 .f32) (harg2 : arg2.IsWhole) (arg3 : Memref sig .tc .vmem S8x1024 .i32) (harg3 : arg3.IsWhole) (arg4 : Memref sig .tc .vmem S8x2048x256 .f32) (harg4 : arg4.IsWhole) (arg5 : Memref sig .tc .vmem S32x256 .f32) (harg5 : arg5.IsWhole) (arg6 : Memref sig .tc .vmem S1024x256 .f32) (harg6 : arg6.IsWhole) (arg7 : Memref sig .tc .vmem S8x2048x256 .bf16) (harg7 : arg7.IsWhole) (arg8 : Memref sig .tc .vmem S2x1024x256 .f32) (harg8 : arg8.IsWhole)
    (hc1 : isFirst i) (hc2 : k0_cond2 i = 1#1) (hc3 : ¬ k0_cond3 i = 1#1)
    (x : Vec F S1024x2048 .f32) (w : Vec F S1024x8 .f32) (ix : Vec F S8x1024 .i32) (wn : Vec F S8x2048x256 .f32) (p : Vec F S32x256 .f32)
    (o : Vec F S1024x256 .f32) (v : View sig .tc .vmem S8x2048x256 .bf16) (f : v.ty.Contents (Elt F)) :
    v.read (Elt F) (v.writes (Elt F) f (runFirst c i arg1 harg1 arg2 harg2 arg3 harg3 arg4 harg4 arg5 harg5 arg6 harg6 arg7 harg7 arg8 harg8 hc1 hc2 hc3 x w ix wn p o).1) = k0_pay1 wn := by
  unfold runFirst
  dsimp only
  refine (View.read_writes_full v f _ _ []).trans ?_
  rw [readAt_unread, ld_wn]

theorem first_half (c : Dev nD) (i : grid0.Coords) (arg1 : Memref sig .tc .vmem S1024x2048 .f32) (harg1 : arg1.IsWhole) (arg2 : Memref sig .tc .vmem S1024x8 .f32) (harg2 : arg2.IsWhole) (arg3 : Memref sig .tc .vmem S8x1024 .i32) (harg3 : arg3.IsWhole) (arg4 : Memref sig .tc .vmem S8x2048x256 .f32) (harg4 : arg4.IsWhole) (arg5 : Memref sig .tc .vmem S32x256 .f32) (harg5 : arg5.IsWhole) (arg6 : Memref sig .tc .vmem S1024x256 .f32) (harg6 : arg6.IsWhole) (arg7 : Memref sig .tc .vmem S8x2048x256 .bf16) (harg7 : arg7.IsWhole) (arg8 : Memref sig .tc .vmem S2x1024x256 .f32) (harg8 : arg8.IsWhole)
    (hc1 : isFirst i) (hc2 : k0_cond2 i = 1#1) (hc3 : ¬ k0_cond3 i = 1#1)
    (x : Vec F S1024x2048 .f32) (w : Vec F S1024x8 .f32) (ix : Vec F S8x1024 .i32) (wn : Vec F S8x2048x256 .f32) (p : Vec F S32x256 .f32)
    (o : Vec F S1024x256 .f32) (v : View sig .tc .vmem S2x1024x256 .f32) (f : v.ty.Contents (Elt F)) :
    half (v.read (Elt F) (v.writes (Elt F) f (runFirst c i arg1 harg1 arg2 harg2 arg3 harg3 arg4 harg4 arg5 harg5 arg6 harg6 arg7 harg7 arg8 harg8 hc1 hc2 hc3 x w ix wn p o).2.1)) (i 0).val = k0_pay2 (dense x w (k0_pay1 wn)) := by
  unfold runFirst
  dsimp only
  refine (half_writes v f i _ _).trans ?_
  simp only [runFirst.sl.r, runFirst.sl.r_1, runFirst.sl.r_2, runFirst.sl.r_3, runFirst.sl.r_4, runFirst.sl.H7_1, runFirst.sl.v15, runFirst.sl.v22, runFirst.sl.v29, runFirst.sl.v36, runFirst.sl.v43, runFirst.sl.v50, runFirst.sl.v57, runFirst.sl.v64, readAt_unread, readCov_one]
  simp only [ld_x, ld_w, ld_ix, ld_p, ld_wn, readCov_pack]
  rfl

theorem last_out (c : Dev nD) (i : grid0.Coords) (arg1 : Memref sig .tc .vmem S1024x2048 .f32) (harg1 : arg1.IsWhole) (arg2 : Memref sig .tc .vmem S1024x8 .f32) (harg2 : arg2.IsWhole) (arg3 : Memref sig .tc .vmem S8x1024 .i32) (harg3 : arg3.IsWhole) (arg4 : Memref sig .tc .vmem S8x2048x256 .f32) (harg4 : arg4.IsWhole) (arg5 : Memref sig .tc .vmem S32x256 .f32) (harg5 : arg5.IsWhole) (arg6 : Memref sig .tc .vmem S1024x256 .f32) (harg6 : arg6.IsWhole) (arg7 : Memref sig .tc .vmem S8x2048x256 .bf16) (harg7 : arg7.IsWhole) (arg8 : Memref sig .tc .vmem S2x1024x256 .f32) (harg8 : arg8.IsWhole)
    (hc1 : ¬ isFirst i) (hc2 : ¬ k0_cond2 i = 1#1) (hc3 : k0_cond3 i = 1#1)
    (x : Vec F S1024x2048 .f32) (w : Vec F S1024x8 .f32) (ix : Vec F S8x1024 .i32) (wn : Vec F S8x2048x256 .f32) (p : Vec F S32x256 .f32)
    (ws : Vec F S8x2048x256 .bf16) (h : Vec F S2x1024x256 .f32) (v : View sig .tc .vmem S1024x256 .f32) (f : v.ty.Contents (Elt F)) :
    v.read (Elt F) (v.writes (Elt F) f (runLast c i arg1 harg1 arg2 harg2 arg3 harg3 arg4 harg4 arg5 harg5 arg6 harg6 arg7 harg7 arg8 harg8 hc1 hc2 hc3 x w ix wn p ws h).1) = house (half h ((i 0).val + 1)) ix p := by
  unfold runLast
  dsimp only
  refine (View.read_writes_full v f _ _ []).trans ?_
  simp only [runLast.sl.r, runLast.sl.r_1, runLast.sl.r_2, runLast.sl.r_3, runLast.sl.r_4, runLast.sl.r_5, runLast.sl.r_6, runLast.sl.r_7, runLast.sl.r_8, runLast.sl.r_9, runLast.sl.r_10, runLast.sl.r_11, runLast.sl.r_12, runLast.sl.r_13, runLast.sl.r_14, runLast.sl.v37, readAt_unread]
  simp only [ld_h, ld_x, ld_w, ld_ix, ld_p, ld_wn]
  rfl

end Cert.KernelIdeal.Body
end
-- ==== Proof.Run.lean ====
/- The pipeline's proof data, the body's obligation at every point, the launch and the frame of the kernel. -/
module

public import proofs.«01_k».proof.Proof.Values
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem coords0 (t : Fin cfg0.N) : (grid0.coords t 0).val = t.val :=
  (by decide +kernel : ∀ t : Fin grid0.N, (grid0.coords t 0).val = t.val) t
theorem isFirst_iff (t : Fin cfg0.N) : isFirst (grid0.coords t) ↔ t.val = 0 :=
  (by decide +kernel : ∀ t : Fin grid0.N, isFirst (grid0.coords t) ↔ t.val = 0) t
theorem cond2_iff (t : Fin cfg0.N) : k0_cond2 (grid0.coords t) = 1#1 ↔ t.val < 8 :=
  (by decide +kernel : ∀ t : Fin grid0.N, k0_cond2 (grid0.coords t) = 1#1 ↔ t.val < 8) t
theorem cond3_iff (t : Fin cfg0.N) : k0_cond3 (grid0.coords t) = 1#1 ↔ t.val ≠ 0 :=
  (by decide +kernel : ∀ t : Fin grid0.N, k0_cond3 (grid0.coords t) = 1#1 ↔ t.val ≠ 0) t
theorem flush5 (t : Fin cfg0.N) : (cfg0.win 5).flush t = true ↔ t.val ≠ 0 :=
  (by decide +kernel : ∀ t : Fin grid0.N, win0_5.flush t = true ↔ t.val ≠ 0) t

theorem half_congr (h : Vec F S2x1024x256 .f32) {s s' : ℕ} (e : s % 2 = s' % 2) : half h s = half h s' := by
  unfold half; congr 2; rw [e]

/-! ## What the points compute -/

/-- The packed experts: what the first point leaves in its scratch. -/
def packed (c : Dev nD) : Vec F S8x2048x256 .bf16 := k0_pay1 (iblk m c 3 t0_0)

/-- The dense block of a point. -/
def denseAt (c : Dev nD) (t : Fin cfg0.N) : FVec F S1024x256 .f32 := dense (iblk m c 0 t) (iblk m c 1 t) (packed m c)

/-- The point before. -/
def prev (t : Fin cfg0.N) : Fin cfg0.N := ⟨t.val - 1, lt_of_le_of_lt (Nat.sub_le _ _) t.isLt⟩

/-- The block of the result a point stores: the reflections of the dense block of the point before. -/
def outAt (c : Dev nD) (t : Fin cfg0.N) : FVec F S1024x256 .f32 :=
  house (k0_pay2 (denseAt m c (prev t))) (iblk m c 2 t) (iblk m c 4 t)

/-- The invariant before position `n`: after the first point the first scratch holds the packed experts, and the half
of the second that the point before filled holds its dense block. -/
def Phi (c : Dev nD) (n : ℕ) : sProp 𝕄 :=
  iprop(iprop((∃ d0, owns (c : Thread nD τ) (Memref.whole cc0_scratch0) fullShare d0 ∗ ⌜n ≠ 0 → d0 = packed m c⌝)
      ∗ (∃ d1, owns (c : Thread nD τ) (Memref.whole cc0_scratch1) fullShare d1 ∗ ⌜∀ t : Fin cfg0.N, n = t.val + 1 → t.val < 8 → half d1 t.val = k0_pay2 (denseAt m c t)⌝))
    ∗ (∃ r, prngReg c r))

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := Phi m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body's obligation -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

theorem idle5 (t : Fin cfg0.N) : cfg0.idle 5 (cfg0.grid.coords t) = true ↔ t.val = 0 :=
  (by decide +kernel : ∀ t : Fin grid0.N, (!(k0_cond3 (grid0.coords t) == 1#1)) = true ↔ t.val = 0) t

theorem leaves_first (c : Dev nD) (t : Fin cfg0.N) (h : t.val = 0) :
    (dats m 0 c).leavesExact 5 t = iprop(∃ d, owns (c : Thread nD τ) (st0_5 t) fullShare ((dats m 0 c).before 5 t d)) :=
  (dats m 0 c).leavesExact_idle 5 t ((idle5 t).2 h) (by
    rw [← Bool.not_eq_true, flush5 t]; exact fun e => e h)

theorem leaves_later (c : Dev nD) (t : Fin cfg0.N) (h : t.val ≠ 0) :
    (dats m 0 c).leavesExact 5 t = owns (c : Thread nD τ) (st0_5 t) fullShare (outAt m c t) := by
  unfold Dat.leavesExact
  have hi : cfg0.idle 5 (cfg0.grid.coords t) = false := by rw [← Bool.not_eq_true, idle5 t]; exact h
  rw [hi, after_5]

set_option maxHeartbeats 3200000 in
/-- The body at any point: the three cases of its conditions, each by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4]
  rw [show (dats m 0 c).Φ t.succ = Phi m c (t.val + 1) from rfl, show (dats m 0 c).Φ t.castSucc = Phi m c t.val from rfl]
  have hN : t.val < 9 := lt_of_lt_of_eq t.isLt (show cfg0.N = 9 from N_0)
  have hi := coords0 t
  by_cases h0 : t.val = 0
  · have ht : t = t0_0 := Fin.ext h0
    rw [leaves_first m c t h0]
    unfold Phi
    iintro ⟨⟨⟨⟨%e0, HS0, -⟩, ⟨%e1, HS1, -⟩⟩, Hg⟩, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ _ (Memref.isWhole_whole _) _ (Memref.isWhole_whole _) ((isFirst_iff t).2 h0) ((cond2_iff t).2 (by omega)) (fun e => (cond3_iff t).1 e h0) (iblk m c 0 t) (iblk m c 1 t) (iblk m c 2 t) (iblk m c 3 t) (iblk m c 4 t) ((dats m 0 c).before 5 t d5)).2.2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    iintro ⟨H0, H1, H2, H3, H4, H5, ⟨%g0, HS0⟩, ⟨%g1, HS1⟩⟩
    isplitl [HS0 HS1 Hg]
    · isplitl [HS0 HS1]
      · isplitl [HS0]
        · iexists (packed m c); isplitl [HS0]
          · unfold owns; iexists _; isplitr
            swap; · iexact HS0
            ipureintro
            refine (first_pack c _ _ _ _ _ _ _ _ _ _ _ _ _ _ _ _ _ _ _ _ _ _ _ _ _ _ _ _).trans ?_
            subst ht; rfl
          ipureintro; exact fun _ => rfl
        · iexists _; isplitl [HS1]
          · unfold owns; iexists _; isplitr
            swap; · iexact HS1
            ipureintro; rfl
          ipureintro
          intro t' e _
          have ett : t' = t := Fin.ext (by omega)
          subst ett
          refine (congrArg (half _) hi.symm).trans ?_
          refine (first_half c _ _ _ _ _ _ _ _ _ _ _ _ _ _ _ _ _ _ _ _ _ _ _ _ _ _ _ _).trans ?_
          unfold denseAt packed
          subst ht; rfl
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc1 : ¬ isFirst (grid0.coords t) := fun e => h0 ((isFirst_iff t).1 e)
    have hc3 : k0_cond3 (grid0.coords t) = 1#1 := (cond3_iff t).2 h0
    rw [leaves_later m c t h0]
    unfold Phi
    by_cases h8 : t.val < 8
    · iintro ⟨⟨⟨⟨%e0, HS0, %he0⟩, ⟨%e1, HS1, %he1⟩⟩, Hg⟩, Ho, ⟨%d0, H0⟩, ⟨%d1, H1⟩, ⟨%d2, H2⟩, ⟨%d3, H3⟩, ⟨%d4, H4⟩, ⟨%d5, H5⟩⟩
      obtain rfl := he0 h0
      iapply ((runMid c (grid0.coords t) _ _ _ _ _ _ _ _ _ _ _ _ _ (Memref.isWhole_whole _) _ (Memref.isWhole_whole _) hc1 ((cond2_iff t).2 h8) hc3 (iblk m c 0 t) (iblk m c 1 t) (iblk m c 2 t) (iblk m c 3 t) (iblk m c 4 t) (packed m c) e1).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%g5, H5⟩, HS0, HS1⟩
      isplitl [HS0 HS1 Hg]
      · isplitl [HS0 HS1]
        · isplitl [HS0]
          · iexists (packed m c); isplitl [HS0]
            · iexact HS0
            ipureintro; exact fun _ => rfl
          · iexists _; isplitl [HS1]
            · unfold owns; iexists _; isplitr
              swap; · iexact HS1
              ipureintro; rfl
            ipureintro
            intro t' e _
            have ett : t' = t := Fin.ext (by omega)
            subst ett
            refine (congrArg (half _) hi.symm).trans ?_
            exact mid_half c _ _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      refine (mid_out c _ _ _ _ _ _ _ _ _ _ _ _ _ _ _ _ _ _ _ _ _ _ _ _ _ _ _ _ _).trans ?_
      unfold outAt
      rw [hi, half_congr e1 (show (t.val + 1) % 2 = (prev t).val % 2 by show _ = (t.val - 1) % 2; omega),
        he1 (prev t) (by show t.val = t.val - 1 + 1; omega) (by show t.val - 1 < 8; omega)]
    · iintro ⟨⟨⟨⟨%e0, HS0, %he0⟩, ⟨%e1, HS1, %he1⟩⟩, Hg⟩, Ho, ⟨%d0, H0⟩, ⟨%d1, H1⟩, ⟨%d2, H2⟩, ⟨%d3, H3⟩, ⟨%d4, H4⟩, ⟨%d5, H5⟩⟩
      obtain rfl := he0 h0
      iapply ((runLast c (grid0.coords t) _ _ _ _ _ _ _ _ _ _ _ _ _ (Memref.isWhole_whole _) _ (Memref.isWhole_whole _) hc1 (fun e => h8 ((cond2_iff t).1 e)) hc3 (iblk m c 0 t) (iblk m c 1 t) (iblk m c 2 t) (iblk m c 3 t) (iblk m c 4 t) (packed m c) e1).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%g5, H5⟩, HS0, HS1⟩
      isplitl [HS0 HS1 Hg]
      · isplitl [HS0 HS1]
        · isplitl [HS0]
          · iexists (packed m c); isplitl [HS0]
            · iexact HS0
            ipureintro; exact fun _ => rfl
          · iexists e1; isplitl [HS1]
            · iexact HS1
            ipureintro
            intro t' e l
            exact absurd l (by omega)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      refine (last_out c _ _ _ _ _ _ _ _ _ _ _ _ _ _ _ _ _ _ _ _ _ _ _ _ _ _ _ _ _).trans ?_
      unfold outAt
      rw [hi, half_congr e1 (show (t.val + 1) % 2 = (prev t).val % 2 by show _ = (t.val - 1) % 2; omega),
        he1 (prev t) (by show t.val = t.val - 1 + 1; omega) (by show t.val - 1 < 8; omega)]

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = Phi m c 0 from rfl, PhiA_eq]
  unfold Phi
  iintro ⟨⟨⟨%e0, HS0⟩, ⟨%e1, HS1⟩⟩, Hg⟩
  isplitl [HS0 HS1]
  · isplitl [HS0]
    · iexists e0; isplitl [HS0]
      · iexact HS0
      ipureintro; exact fun h => absurd rfl h
    · iexists e1; isplitl [HS1]
      · iexact HS1
      ipureintro; exact fun t e _ => absurd e (by omega)
  iexact Hg

theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨⟨%e0, HS0, -⟩, ⟨%e1, HS1, -⟩⟩, Hg⟩
  isplitl [HS0 HS1]
  · isplitl [HS0]
    · iexists e0; iexact HS0
    · iexists e1; iexact HS1
  iexact Hg

set_option backward.isDefEq.respectTransparency.types false in
/-- The launch: every execution ends with the arrays at what the pipeline's proof data says and every counter zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.KernelIdeal.Body
end
-- ==== Proof.SameText.lean ====
/- The kernel read for its ideal values is the kernel's own text: the two printed programs are one program, so the run proved
   of the one at any instance is the run of the other at that instance. -/
module

public import proofs.«01_k».proof.Defs
public import proofs.«01_k».proof.Proof.Gen.Kernel
public import proofs.«01_k».proof.Proof.Gen.KernelIdeal

@[expose] public section

set_option maxRecDepth 100000
set_option maxHeartbeats 4000000

namespace Cert.SameText

open Idealize.ShloMosaic Idealize.SL.Sem

variable {F : FTy → Type} [FloatOps F]

attribute [local instance] Cert.Kernel.Gen.facts Cert.KernelIdeal.Gen.facts

/-- The two kernel functions are one. -/
theorem body_same : @Cert.Kernel.cc0__fused_kernel F _ Cert.Kernel.Gen.facts
    = @Cert.KernelIdeal.cc0__fused_kernel F _ Cert.KernelIdeal.Gen.facts := rfl

/-- Hence the two tables of kernel functions. -/
theorem bodies_same : @Cert.Kernel.defs₀ F _ Cert.Kernel.Gen.facts
    = @Cert.KernelIdeal.defs₀ F _ Cert.KernelIdeal.Gen.facts := by
  unfold Cert.Kernel.defs₀ Cert.KernelIdeal.defs₀
  refine congrArg Defs.onTc ?_
  funext l a
  match l, a with
  | 0, (t, s) =>
    show @Cert.Kernel.cc0__fused_kernel F _ Cert.Kernel.Gen.facts _ _ _ _ _ _ _ _ _ _ _ _ _ _ _ _ _ = _
    rw [body_same]
    rfl

/-- Hence the two tables with the pipelines. -/
theorem defs_same : @Cert.Kernel.defs F _ Cert.Kernel.Gen.facts
    = @Cert.KernelIdeal.defs F _ Cert.KernelIdeal.Gen.facts := by
  unfold Cert.Kernel.defs Cert.KernelIdeal.defs
  exact congrArg _ bodies_same

/-- The two main functions are one. -/
theorem main_same : Cert.Kernel.main (F := F) = Cert.KernelIdeal.main (F := F) := rfl

end Cert.SameText

end
-- ==== Proof.Steps.lean ====
/- One point's reflected block, written as eight uses of one step, and each step read at an index over the extended reals. -/
module

public import proofs.«01_k».proof.Proof.Body
public import Idealize.ShloMosaic.Lib.Pointwise
public import Idealize.ShloMosaic.PureOps.Ideal.Laws
public import Idealize.ShloMosaic.Lib.WordCmp

@[expose] public section

set_option maxRecDepth 16384

noncomputable section

namespace Cert.KernelIdeal.Body

open Cert.KernelIdeal.Gen
open Idealize.ShloMosaic Idealize.ShloMosaic.TcCoe

variable {F : FTy → Type} [FloatOps F]

/-- Row `n` of the block of indices, compared with the class numbers: one where they agree. -/
def oneHot (ix : IVec S8x1024 32) (n : ℕ) (hn : S8x1024.Slices ![n, 0] S1x1024) : FVec F S32x1024 .f32 :=
  sitofp .f32 (extui 32 (cmpi .eq (broadcastTo S32x1024 (extractStridedSlice S1x1024 ![n, 0] ix hn) broadcasts_S1x1024_S32x1024)
    (broadcastTo S32x1024 classes broadcasts_S32x1_S32x1024)) natLt_1_32)

/-- Twice the selected projection. -/
def twice (o d : FVec F S32x1024 .f32) : FVec F S1x1024 .f32 :=
  mulf (broadcast S1x1024 (Scalar.ofBits .f32 0x40000000#32))
    (shapeCast S1x1024 (multiReduction .add [0] S1024 (mulf o d) 0x00000000#32 reduces_S32x1024_S1024 (.inl rfl) rfl) shapeCasts_S1024_S1x1024)

/-- The projections after one more reflection. -/
def stepD (gn : FVec F S32x32 .f32) (o d : FVec F S32x1024 .f32) : FVec F S32x1024 .f32 :=
  subf d (mulf (broadcastTo S32x1024 (twice o d) broadcasts_S1x1024_S32x1024)
    (matmul dot_S32x32_S32x1024_S32x1024_1_0_0_1_n_n none gn o (constant S32x1024 .f32 0x00000000#32)))

/-- The coefficients after one more reflection. -/
def stepC (o d a : FVec F S32x1024 .f32) : FVec F S32x1024 .f32 :=
  addf a (mulf (broadcastTo S32x1024 (twice o d) broadcasts_S1x1024_S32x1024) o)

/-- The one-hot rows of the eight reflections. -/
def row0 (ix : Vec F S8x1024 .i32) : FVec F S32x1024 .f32 := oneHot (k0_pay10 ix) 0 slices_S8x1024_o0_0_S1x1024
def row1 (ix : Vec F S8x1024 .i32) : FVec F S32x1024 .f32 := oneHot (k0_pay10 ix) 1 slices_S8x1024_o1_0_S1x1024
def row2 (ix : Vec F S8x1024 .i32) : FVec F S32x1024 .f32 := oneHot (k0_pay10 ix) 2 slices_S8x1024_o2_0_S1x1024
def row3 (ix : Vec F S8x1024 .i32) : FVec F S32x1024 .f32 := oneHot (k0_pay10 ix) 3 slices_S8x1024_o3_0_S1x1024
def row4 (ix : Vec F S8x1024 .i32) : FVec F S32x1024 .f32 := oneHot (k0_pay10 ix) 4 slices_S8x1024_o4_0_S1x1024
def row5 (ix : Vec F S8x1024 .i32) : FVec F S32x1024 .f32 := oneHot (k0_pay10 ix) 5 slices_S8x1024_o5_0_S1x1024
def row6 (ix : Vec F S8x1024 .i32) : FVec F S32x1024 .f32 := oneHot (k0_pay10 ix) 6 slices_S8x1024_o6_0_S1x1024
def row7 (ix : Vec F S8x1024 .i32) : FVec F S32x1024 .f32 := oneHot (k0_pay10 ix) 7 slices_S8x1024_o7_0_S1x1024

/-- The projections after the reflections named by a list of one-hot rows. -/
def projections (gn : FVec F S32x32 .f32) : List (FVec F S32x1024 .f32) → FVec F S32x1024 .f32 → FVec F S32x1024 .f32
  | [], d => d
  | o :: os, d => projections gn os (stepD gn o d)

/-- The coefficients after the reflections named by a list of one-hot rows. -/
def coefficients (gn : FVec F S32x32 .f32) : List (FVec F S32x1024 .f32) → FVec F S32x1024 .f32 → FVec F S32x1024 .f32 → FVec F S32x1024 .f32
  | [], d, a => a
  | o :: os, d, a => coefficients gn os (stepD gn o d) (stepC o d a)

/-- The eight one-hot blocks in order. -/
def rows (ix : Vec F S8x1024 .i32) : List (FVec F S32x1024 .f32) :=
  [row0 ix, row1 ix, row2 ix, row3 ix, row4 ix, row5 ix, row6 ix, row7 ix]

/-- The block stored is the held block less the coefficients' combination of the unit vectors. -/
def combined (h : FVec F S1024x256 .f32) (a : FVec F S32x1024 .f32) (vn : FVec F S32x256 .f32) : FVec F S1024x256 .f32 :=
  subf h (matmul dot_S32x1024_S32x256_S1024x256_0_0_1_1_n_n none a vn (constant S1024x256 .f32 0x00000000#32))

set_option maxHeartbeats 1000000 in
/-- One point's output block is eight steps and the combination. -/
theorem house_eq (h : Vec F S1x1024x256 .f32) (ix : Vec F S8x1024 .i32) (p : Vec F S32x256 .f32) :
    house h ix p = combined (k0_pay9 h) (coefficients (k0_pay12 p) (rows ix) (k0_pay13 h p) k0_pay14) (k0_pay11 p) := rfl

/-! ## Read at an index -/

theorem oneHot_apply (ix : IVec S8x1024 32) (n : Fin 8) (hn) (j : Fin 32) (r : Fin 1024) :
    oneHot (F := Ideal) ix n.val hn (ix2 j r) = (((if ix (ix2 n r) = BitVec.ofNat 32 j.val then 1 else 0 : ℝ)) : EReal) := by
  unfold oneHot classes
  pointwise
  show ((BitVec.toInt (BitVec.setWidth 32 (IntOp.cmpi CmpIPredicate.eq (ix (ix2 n r)) (BitVec.ofNat 32 j.val))) : ℝ) : EReal) = _
  rw [WordCmp.cmpi_eq_eq]
  by_cases e : ix (ix2 n r) = BitVec.ofNat 32 j.val
  · rw [decide_eq_true e, if_pos e, show (BitVec.setWidth 32 (BitVec.ofBool true)).toInt = 1 by decide]; norm_num
  · rw [decide_eq_false e, if_neg e, show (BitVec.setWidth 32 (BitVec.ofBool false)).toInt = 0 by decide]; norm_num

theorem twice_apply (o d : FVec Ideal S32x1024 .f32) (r : Fin 1024) :
    twice o d (ix2 0 r) = Ideal.ofBits .f32 0x40000000#32 * ∑ j : Fin 32, o (ix2 j r) * d (ix2 j r) := by
  pointwise [twice]

theorem stepD_apply (gn : FVec Ideal S32x32 .f32) (o d : FVec Ideal S32x1024 .f32) (j : Fin 32) (r : Fin 1024) :
    stepD gn o d (ix2 j r) = d (ix2 j r) - (Ideal.ofBits .f32 0x40000000#32 * ∑ l : Fin 32, o (ix2 l r) * d (ix2 l r)) * ∑ l : Fin 32, gn (ix2 j l) * o (ix2 l r) := by
  pointwise [stepD, twice]

theorem stepC_apply (o d a : FVec Ideal S32x1024 .f32) (j : Fin 32) (r : Fin 1024) :
    stepC o d a (ix2 j r) = a (ix2 j r) + (Ideal.ofBits .f32 0x40000000#32 * ∑ l : Fin 32, o (ix2 l r) * d (ix2 l r)) * o (ix2 j r) := by
  pointwise [stepC, twice]

theorem combined_apply (h : FVec Ideal S1024x256 .f32) (a : FVec Ideal S32x1024 .f32) (vn : FVec Ideal S32x256 .f32) (r : Fin 1024) (l : Fin 256) :
    combined h a vn (ix2 r l) = h (ix2 r l) - ∑ j : Fin 32, a (ix2 j r) * vn (ix2 j l) := by
  pointwise [combined]

theorem held_apply (h : Vec Ideal S1x1024x256 .f32) (r : Fin 1024) (l : Fin 256) : k0_pay9 (F := Ideal) h (ix2 r l) = h (ix3 0 r l) := by
  pointwise [k0_pay9]

theorem indices_apply (ix : Vec Ideal S8x1024 .i32) (n : Fin 8) (r : Fin 1024) : k0_pay10 (F := Ideal) ix (ix2 n r) = ix (ix2 n r) := by
  pointwise [k0_pay10]

theorem unit_apply (p : Vec Ideal S32x256 .f32) (j : Fin 32) (l : Fin 256) :
    k0_pay11 (F := Ideal) p (ix2 j l) = p (ix2 j l) * Ideal.rsqrt ((∑ l : Fin 256, p (ix2 j l) * p (ix2 j l)) + Ideal.ofBits .f32 0x322BCC77#32) := by
  pointwise [k0_pay11]

theorem gram_apply (p : Vec Ideal S32x256 .f32) (i j : Fin 32) :
    k0_pay12 (F := Ideal) p (ix2 i j) = ∑ l : Fin 256, k0_pay11 (F := Ideal) p (ix2 i l) * k0_pay11 (F := Ideal) p (ix2 j l) := by
  unfold k0_pay12
  generalize k0_pay11 (F := Ideal) p = v
  pointwise

theorem first_apply (h : Vec Ideal S1x1024x256 .f32) (p : Vec Ideal S32x256 .f32) (j : Fin 32) (r : Fin 1024) :
    k0_pay13 (F := Ideal) h p (ix2 j r) = ∑ l : Fin 256, k0_pay11 (F := Ideal) p (ix2 j l) * h (ix3 0 r l) := by
  unfold k0_pay13
  simp only [← held_apply]
  generalize k0_pay11 (F := Ideal) p = v
  generalize k0_pay9 (F := Ideal) h = u
  pointwise

theorem zeros_apply (j : Fin 32) (r : Fin 1024) : k0_pay14 (F := Ideal) (ix2 j r) = 0 := by
  pointwise [k0_pay14]

/-! ## The dense block -/

theorem packed_apply (wn : Vec Ideal S8x2048x256 .f32) : k0_pay1 (F := Ideal) wn = wn := by
  funext i
  pointwise [k0_pay1]

theorem expert_apply (ws : Vec F S8x2048x256 .bf16) (n : Fin 8) (inb) (d : Fin 2048) (l : Fin 256) :
    expert ws n.val inb (ix3 0 d l) = ws (ix3 n d l) := by
  show ws _ = ws _
  congr 1
  funext a
  apply Fin.ext
  fin_cases a
  · show n.val + 1 * 0 = n.val; omega
  · show 0 + 1 * d.val = d.val; omega
  · show 0 + 1 * l.val = l.val; omega

theorem firstFour_apply (x : Vec Ideal S1024x2048 .f32) (w : Vec Ideal S1024x8 .f32) (s0 s1 s2 s3 : Vec Ideal S1x2048x256 .bf16) (r : Fin 1024) (l : Fin 256) :
    k0_pay6 (F := Ideal) x w s0 s1 s2 s3 (ix2 r l)
      = (((∑ d : Fin 2048, x (ix2 r d) * s0 (ix3 0 d l)) * w (ix2 r 0) + (∑ d : Fin 2048, x (ix2 r d) * s1 (ix3 0 d l)) * w (ix2 r 1))
        + (∑ d : Fin 2048, x (ix2 r d) * s2 (ix3 0 d l)) * w (ix2 r 2)) + (∑ d : Fin 2048, x (ix2 r d) * s3 (ix3 0 d l)) * w (ix2 r 3) := by
  pointwise [k0_pay6, k0_pay5, k0_pay4]

theorem lastFour_apply (x : Vec Ideal S1024x2048 .f32) (w : Vec Ideal S1024x8 .f32) (a : FVec Ideal S1024x256 .f32) (s4 s5 s6 s7 : Vec Ideal S1x2048x256 .bf16) (r : Fin 1024) (l : Fin 256) :
    k0_pay8 (F := Ideal) (k0_pay4 x) (k0_pay5 w) a (k0_pay7 s4) s5 s6 s7 (ix2 r l)
      = (((a (ix2 r l) + (∑ d : Fin 2048, x (ix2 r d) * s4 (ix3 0 d l)) * w (ix2 r 4)) + (∑ d : Fin 2048, x (ix2 r d) * s5 (ix3 0 d l)) * w (ix2 r 5))
        + (∑ d : Fin 2048, x (ix2 r d) * s6 (ix3 0 d l)) * w (ix2 r 6)) + (∑ d : Fin 2048, x (ix2 r d) * s7 (ix3 0 d l)) * w (ix2 r 7) := by
  pointwise [k0_pay8, k0_pay7, k0_pay5, k0_pay4]

/-- A row of the dense block is the weighted sum of the row's eight projections. -/
theorem dense_apply (x : Vec Ideal S1024x2048 .f32) (w : Vec Ideal S1024x8 .f32) (wn : Vec Ideal S8x2048x256 .f32) (r : Fin 1024) (l : Fin 256) :
    dense (F := Ideal) x w (k0_pay1 wn) (ix2 r l) = ∑ n : Fin 8, (∑ d : Fin 2048, x (ix2 r d) * wn (ix3 n d l)) * w (ix2 r n) := by
  have e : ∀ (n : Fin 8) (inb) (d : Fin 2048), expert (F := Ideal) (k0_pay1 (F := Ideal) wn) n.val inb (ix3 0 d l) = wn (ix3 n d l) := fun n inb d => by
    rw [packed_apply]; exact expert_apply (F := Ideal) wn n inb d l
  unfold dense
  rw [lastFour_apply, firstFour_apply, Fin.sum_univ_eight]
  have e0 : ∀ (inb) (d : Fin 2048), expert (F := Ideal) (k0_pay1 (F := Ideal) wn) 0 inb (ix3 0 d l) = wn (ix3 0 d l) := e 0
  have e1 : ∀ (inb) (d : Fin 2048), expert (F := Ideal) (k0_pay1 (F := Ideal) wn) 1 inb (ix3 0 d l) = wn (ix3 1 d l) := e 1
  have e2 : ∀ (inb) (d : Fin 2048), expert (F := Ideal) (k0_pay1 (F := Ideal) wn) 2 inb (ix3 0 d l) = wn (ix3 2 d l) := e 2
  have e3 : ∀ (inb) (d : Fin 2048), expert (F := Ideal) (k0_pay1 (F := Ideal) wn) 3 inb (ix3 0 d l) = wn (ix3 3 d l) := e 3
  have e4 : ∀ (inb) (d : Fin 2048), expert (F := Ideal) (k0_pay1 (F := Ideal) wn) 4 inb (ix3 0 d l) = wn (ix3 4 d l) := e 4
  have e5 : ∀ (inb) (d : Fin 2048), expert (F := Ideal) (k0_pay1 (F := Ideal) wn) 5 inb (ix3 0 d l) = wn (ix3 5 d l) := e 5
  have e6 : ∀ (inb) (d : Fin 2048), expert (F := Ideal) (k0_pay1 (F := Ideal) wn) 6 inb (ix3 0 d l) = wn (ix3 6 d l) := e 6
  have e7 : ∀ (inb) (d : Fin 2048), expert (F := Ideal) (k0_pay1 (F := Ideal) wn) 7 inb (ix3 0 d l) = wn (ix3 7 d l) := e 7
  simp only [e0, e1, e2, e3, e4, e5, e6, e7]

/-- What is stored in the scratch for a dense block reads back as the block. -/
theorem laid_apply (v : FVec Ideal S1024x256 .f32) (r : Fin 1024) (l : Fin 256) : k0_pay2 (F := Ideal) v (ix3 0 r l) = v (ix2 r l) := by
  pointwise [k0_pay2]

end Cert.KernelIdeal.Body

end
-- ==== Proof.Reflect.lean ====
/- The mathematics: reflections in unit vectors, carried out on the vector, or on its projections and on coefficients of the unit
   vectors; and the extended reals' readings of the quantities, which are all real. -/
module

public import Idealize.ShloMosaic.PureOps.Ideal.Laws

@[expose] public section

namespace Cert.Reflect

open Idealize.ShloMosaic

/-! ## Sums and constants -/

/-- A finite sum of reals is real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The literal two. -/
theorem two_word : Ideal.ofBits .f32 0x40000000#32 = ((2 : ℝ) : EReal) := by
  simp [Ideal.ofBits, Ideal.ieee]
  rw [← EReal.coe_mul]; norm_num

/-- The small literal is a positive real. -/
theorem small_word : ∃ e : ℝ, 0 < e ∧ Ideal.ofBits .f32 0x322BCC77#32 = (e : EReal) := by
  refine ⟨_, ?_, by simp [Ideal.ofBits, Ideal.ieee]; rfl⟩
  positivity

/-! ## The unit vector -/

variable {n m : ℕ}

/-- A vector divided by the root of its square sum and a small number, as the kernel does it. -/
noncomputable def unit (v : Fin n → EReal) (l : Fin n) : EReal :=
  v l * Ideal.rsqrt ((∑ k, v k * v k) + Ideal.ofBits .f32 0x322BCC77#32)

theorem square_nonneg (x : EReal) : 0 ≤ x * x := by
  induction x with
  | bot => simp
  | top => simp
  | coe r => exact_mod_cast mul_self_nonneg r

/-- The square sum is infinite, or the vector is real. -/
theorem square_sum (v : Fin n → EReal) :
    (∑ k, v k * v k) = ⊤ ∨ ∃ u : Fin n → ℝ, (∀ k, v k = (u k : EReal)) ∧ (∑ k, v k * v k) = ((∑ k, u k * u k : ℝ) : EReal) := by
  by_cases h : ∀ k, v k ≠ ⊤ ∧ v k ≠ ⊥
  · right
    refine ⟨fun k => (v k).toReal, fun k => (EReal.coe_toReal (h k).1 (h k).2).symm, ?_⟩
    rw [← coe_sum]
    refine Finset.sum_congr rfl fun k _ => ?_
    rw [EReal.coe_mul, EReal.coe_toReal (h k).1 (h k).2]
  · left
    push Not at h
    obtain ⟨k, hk⟩ := h
    have hsq : v k * v k = ⊤ := by
      by_cases ht : v k = ⊤
      · rw [ht]; rfl
      · rw [hk ht]; rfl
    have hle : v k * v k ≤ ∑ k, v k * v k := Finset.single_le_sum (f := fun k => v k * v k) (fun i _ => square_nonneg _) (Finset.mem_univ k)
    rw [hsq] at hle
    exact top_le_iff.1 hle

/-- The unit vector is real, whatever the vector. -/
theorem unit_real (v : Fin n → EReal) (l : Fin n) : ∃ u : ℝ, unit v l = (u : EReal) := by
  obtain ⟨e, he, hw⟩ := small_word
  unfold unit
  rw [hw]
  rcases square_sum v with h | ⟨u, hu, h⟩
  · refine ⟨0, ?_⟩
    rw [h, EReal.top_add_coe, Ideal.rsqrt_top, mul_zero, EReal.coe_zero]
  · have hs : 0 ≤ ∑ k, u k * u k := Finset.sum_nonneg fun k _ => mul_self_nonneg _
    rw [h, hu l, ← EReal.coe_add, Ideal.rsqrt_coe, if_neg (by linarith), if_neg (by linarith), ← EReal.coe_mul]
    exact ⟨_, rfl⟩

/-- Dividing by the root is the same. -/
theorem div_eq_unit (v : Fin n → EReal) (l : Fin n) :
    Ideal.div (v l) (Ideal.sqrt ((∑ k, v k * v k) + Ideal.ofBits .f32 0x322BCC77#32)) = unit v l := by
  obtain ⟨e, he, hw⟩ := small_word
  unfold unit
  rw [hw]
  rcases square_sum v with h | ⟨u, hu, h⟩
  · rw [h, EReal.top_add_coe, Ideal.rsqrt_top, Ideal.sqrt_top, Ideal.div, if_neg (by simp), EReal.inv_top]
  · have hs : 0 ≤ ∑ k, u k * u k := Finset.sum_nonneg fun k _ => mul_self_nonneg _
    rw [h, ← EReal.coe_add, Ideal.rsqrt_coe, if_neg (by linarith), if_neg (by linarith), Ideal.sqrt_coe, if_neg (by linarith),
      Ideal.div_coe (Real.sqrt_ne_zero'.2 (by linarith)), one_div]

/-! ## One reflection -/

/-- The reflection of `h` in the hyperplane orthogonal to `u`. -/
noncomputable def reflect (u h : Fin n → ℝ) (l : Fin n) : ℝ := h l - 2 * u l * ∑ k, h k * u k

/-- The reflections in the vectors of a list, one after the other. -/
noncomputable def reflectAll : List (Fin n → ℝ) → (Fin n → ℝ) → Fin n → ℝ
  | [], h => h
  | u :: us, h => reflectAll us (reflect u h)

/-- The reflection carried out directly. -/
theorem direct (u h : Fin n → ℝ) (l : Fin n) :
    (h l : EReal) - ((2 : ℝ) : EReal) * (u l : EReal) * ∑ k, (h k : EReal) * (u k : EReal) = (reflect u h l : EReal) := by
  simp only [← EReal.coe_mul, coe_sum, ← EReal.coe_sub, reflect]

/-- What the kernel carries from one reflection to the next: the projections of the present vector on the unit vectors, and
the coefficients which, taken off the first vector, give the present one. -/
def Carries (u : Fin m → Fin n → ℝ) (h0 h : Fin n → ℝ) (d a : Fin m → EReal) : Prop :=
  (∀ j, d j = ((∑ k, u j k * h k : ℝ) : EReal)) ∧ ∃ c : Fin m → ℝ, (∀ j, a j = (c j : EReal)) ∧ ∀ l, h l = h0 l - ∑ j, c j * u j l

/-- It begins with no coefficients. -/
theorem Carries.start (u : Fin m → Fin n → ℝ) (h : Fin n → ℝ) (d a : Fin m → EReal)
    (hd : ∀ j, d j = ∑ k, (u j k : EReal) * (h k : EReal)) (ha : ∀ j, a j = 0) : Carries u h h d a := by
  refine ⟨fun j => ?_, fun _ => 0, fun j => by rw [ha, EReal.coe_zero], fun l => by simp⟩
  rw [hd]; simp only [← EReal.coe_mul, coe_sum]

/-- A reflection carried out on the projections and the coefficients: the projection on the vector `p` is picked by a sum against
the indicator of `p`, and the products of `p` with the other vectors by the same. -/
theorem Carries.step {u : Fin m → Fin n → ℝ} {h0 h : Fin n → ℝ} {d a : Fin m → EReal} (H : Carries u h0 h d a) (p : Fin m)
    (o : Fin m → EReal) (ho : ∀ j, o j = (((if j = p then 1 else 0 : ℝ)) : EReal)) (g : Fin m → Fin m → EReal)
    (hg : ∀ i j, g i j = ∑ k, (u i k : EReal) * (u j k : EReal)) :
    Carries u h0 (reflect (u p) h)
      (fun j => d j - (((2 : ℝ) : EReal) * ∑ i, o i * d i) * ∑ i, g j i * o i)
      (fun j => a j + (((2 : ℝ) : EReal) * ∑ i, o i * d i) * o j) := by
  obtain ⟨hd, c, hc, hh⟩ := H
  have e1 : ∑ i, o i * d i = ((∑ k, u p k * h k : ℝ) : EReal) := by
    simp only [ho, hd, ← EReal.coe_mul, coe_sum]
    congr 1
    simp
  have e2 : ∀ j, ∑ i, g j i * o i = ((∑ k, u j k * u p k : ℝ) : EReal) := fun j => by
    simp only [ho, hg, ← EReal.coe_mul, coe_sum]
    congr 1
    simp
  refine ⟨fun j => ?_, fun j => c j + 2 * (∑ k, u p k * h k) * (if j = p then 1 else 0), fun j => ?_, fun l => ?_⟩
  · show d j - _ = _
    rw [e1, e2, hd, ← EReal.coe_mul, ← EReal.coe_mul, ← EReal.coe_sub]
    congr 1
    simp only [reflect, mul_sub, Finset.sum_sub_distrib]
    congr 1
    rw [Finset.mul_sum]
    refine Finset.sum_congr rfl fun k _ => ?_
    rw [show ∑ k, u p k * h k = ∑ k, h k * u p k from Finset.sum_congr rfl fun k _ => mul_comm _ _]
    ring
  · show a j + _ = _
    rw [e1, hc, ho, ← EReal.coe_mul, ← EReal.coe_mul, ← EReal.coe_add]
  · simp only [reflect, add_mul, Finset.sum_add_distrib]
    rw [hh l, show ∑ j, 2 * (∑ k, u p k * h k) * (if j = p then (1 : ℝ) else 0) * u j l = 2 * (∑ k, u p k * h k) * u p l by simp,
      show ∑ k, u p k * h k = ∑ k, h k * u p k from Finset.sum_congr rfl fun k _ => mul_comm _ _]
    ring

/-- The combination at the end gives the present vector. -/
theorem Carries.finish {u : Fin m → Fin n → ℝ} {h0 h : Fin n → ℝ} {d a : Fin m → EReal} (H : Carries u h0 h d a) (l : Fin n) :
    (h0 l : EReal) - ∑ j, a j * (u j l : EReal) = (h l : EReal) := by
  obtain ⟨-, c, hc, hh⟩ := H
  simp only [hc, ← EReal.coe_mul, coe_sum, ← EReal.coe_sub, hh l]

/-! ## The dense row -/

/-- A weighted sum of projections of real rows is real. -/
theorem weighted_real {d : ℕ} (x : Fin d → EReal) (w : Fin m → EReal) (y : Fin m → Fin d → EReal)
    (hx : ∀ i, ∃ r : ℝ, x i = (r : EReal)) (hw : ∀ i, ∃ r : ℝ, w i = (r : EReal)) (hy : ∀ i j, ∃ r : ℝ, y i j = (r : EReal)) :
    ∃ r : ℝ, ∑ i, (∑ k, x k * y i k) * w i = (r : EReal) := by
  choose x' hx using hx
  choose w' hw using hw
  choose y' hy using hy
  simp only [hx, hw, hy, ← EReal.coe_mul, coe_sum]
  exact ⟨_, rfl⟩

end Cert.Reflect

end
-- ==== Proof.Block.lean ====
/- What one point's output block holds over the extended reals: each row is the dense row reflected in the eight unit vectors that
   the row's indices name. -/
module

public import proofs.«01_k».proof.Proof.Steps
public import proofs.«01_k».proof.Proof.Reflect

@[expose] public section

set_option maxRecDepth 16384

noncomputable section

namespace Cert.KernelIdeal.Body

open Cert.KernelIdeal.Gen Cert.Reflect
open Idealize.ShloMosaic Idealize.ShloMosaic.TcCoe

/-- The steps of a list of one-hot blocks, read in one column: what comes off the first vector leaves the reflected one. -/
theorem coefficients_value (u : Fin 32 → Fin 256 → ℝ) (gn : FVec Ideal S32x32 .f32)
    (hg : ∀ i j, gn (ix2 i j) = ∑ k, (u i k : EReal) * (u j k : EReal)) (r : Fin 1024) (h0 : Fin 256 → ℝ)
    (os : List (FVec Ideal S32x1024 .f32)) (qs : List (Fin 32))
    (hos : List.Forall₂ (fun (o : FVec Ideal S32x1024 .f32) q => ∀ j, o (ix2 j r) = (((if j = q then 1 else 0 : ℝ)) : EReal)) os qs) :
    ∀ (h : Fin 256 → ℝ) (d a : FVec Ideal S32x1024 .f32), Carries u h0 h (fun j => d (ix2 j r)) (fun j => a (ix2 j r)) →
      ∀ l, (h0 l : EReal) - ∑ j, coefficients gn os d a (ix2 j r) * (u j l : EReal) = (reflectAll (qs.map u) h l : EReal) := by
  induction hos with
  | nil => exact fun h d a H l => H.finish l
  | cons ho _ ih =>
    intro h d a H l
    refine ih _ _ _ ?_ l
    have := H.step _ _ ho (fun i j => gn (ix2 i j)) hg
    simp only [stepD_apply, stepC_apply, two_word]
    exact this

/-- The row of one-hot entries that an index word names. -/
theorem row_value (ix : Vec Ideal S8x1024 .i32) (n : Fin 8) (hn) (r : Fin 1024) (q : Fin 32) (hq : ix (ix2 n r) = BitVec.ofNat 32 q.val) (j : Fin 32) :
    oneHot (F := Ideal) (k0_pay10 (F := Ideal) ix) n.val hn (ix2 j r) = (((if j = q then 1 else 0 : ℝ)) : EReal) := by
  rw [oneHot_apply, indices_apply, hq]
  congr 1
  refine if_congr ⟨fun e => ?_, fun e => by rw [e]⟩ rfl rfl
  have := congrArg BitVec.toNat e
  simp only [BitVec.toNat_ofNat] at this
  have h1 := q.isLt; have h2 := j.isLt
  exact Fin.ext (by omega)

/-- A row of the output block. -/
theorem house_value (h : Vec Ideal S1x1024x256 .f32) (ix : Vec Ideal S8x1024 .i32) (p : Vec Ideal S32x256 .f32) (r : Fin 1024)
    (u : Fin 32 → Fin 256 → ℝ) (hu : ∀ j l, unit (fun l => p (ix2 j l)) l = (u j l : EReal))
    (x : Fin 256 → ℝ) (hx : ∀ l, h (ix3 0 r l) = (x l : EReal)) (q : Fin 8 → Fin 32) (hq : ∀ n, ix (ix2 n r) = BitVec.ofNat 32 (q n).val) (l : Fin 256) :
    house (F := Ideal) h ix p (ix2 r l) = (reflectAll ((List.ofFn q).map u) x l : EReal) := by
  have hv : ∀ j l, k0_pay11 (F := Ideal) p (ix2 j l) = (u j l : EReal) := fun j l => by rw [unit_apply, ← hu]; rfl
  rw [house_eq, combined_apply]
  simp only [held_apply, hx, hv]
  refine coefficients_value u _ (fun i j => ?_) r x (rows ix) (List.ofFn q) ?_ x _ _ (Carries.start u x _ _ (fun j => ?_) fun j => zeros_apply j r) l
  · rw [gram_apply]; simp only [hv]
  · have e : List.ofFn q = [q 0, q 1, q 2, q 3, q 4, q 5, q 6, q 7] := by simp [List.ofFn_succ]
    rw [e]
    unfold rows
    refine .cons (row_value ix 0 _ r _ (hq 0)) (.cons (row_value ix 1 _ r _ (hq 1)) (.cons (row_value ix 2 _ r _ (hq 2)) (.cons (row_value ix 3 _ r _ (hq 3))
      (.cons (row_value ix 4 _ r _ (hq 4)) (.cons (row_value ix 5 _ r _ (hq 5)) (.cons (row_value ix 6 _ r _ (hq 6)) (.cons (row_value ix 7 _ r _ (hq 7)) .nil)))))))
  · rw [first_apply]; simp only [hv, hx]

end Cert.KernelIdeal.Body

end
-- ==== Proof.Array.lean ====
/- The array the kernel leaves: each row of the result is the dense row reflected in the eight unit vectors that the row's indices
   name, read off the arguments themselves. -/
module

public import proofs.«01_k».proof.Proof.Run
public import proofs.«01_k».proof.Proof.Block
public import Idealize.ShloMosaic.Lib.Pipeline.ValueKit

@[expose] public section

set_option maxRecDepth 16384

noncomputable section

namespace Cert.KernelIdeal.Body

open Cert.KernelIdeal.Gen Cert.Reflect
open Idealize.ShloMosaic Idealize.ShloMosaic.TcCoe
open Idealize.SL.Sem

variable (m : (ℓ : Loc nD τ sig) → Buf (Elt Ideal) ℓ) (c : Dev nD)

theorem index_0 (t : Fin grid0.N) : win0_0.index t = ![min t.val 7, 0] :=
  (by decide +kernel : ∀ t : Fin grid0.N, win0_0.index t = ![min t.val 7, 0]) t
theorem index_1 (t : Fin grid0.N) : win0_1.index t = ![min t.val 7, 0] :=
  (by decide +kernel : ∀ t : Fin grid0.N, win0_1.index t = ![min t.val 7, 0]) t
theorem index_2 (t : Fin grid0.N) : win0_2.index t = ![0, t.val - 1] :=
  (by decide +kernel : ∀ t : Fin grid0.N, win0_2.index t = ![0, t.val - 1]) t
theorem index_3 (t : Fin grid0.N) : win0_3.index t = ![0, 0, 0] :=
  (by decide +kernel : ∀ t : Fin grid0.N, win0_3.index t = ![0, 0, 0]) t
theorem index_4 (t : Fin grid0.N) : win0_4.index t = ![0, 0] :=
  (by decide +kernel : ∀ t : Fin grid0.N, win0_4.index t = ![0, 0]) t
theorem index_5 (t : Fin grid0.N) : win0_5.index t = ![t.val - 1, 0] :=
  (by decide +kernel : ∀ t : Fin grid0.N, win0_5.index t = ![t.val - 1, 0]) t

/-- The x block of a point at a row. -/
theorem x_read (t : Fin cfg0.N) (r : Fin 1024) (d : Fin 2048) (b : Fin 4) (s : Fin 2048) (h : b.val * 2048 + s.val = (min t.val 7) * 1024 + r.val) :
    iblk m c 0 t (ix2 r d) = (m ((c : Thread nD τ).loc main_arg0) : Vec Ideal S4x2048x2048 .f32) (ix3 b s d) := by
  blk_simp [iblk, index_0 t]
  entry_read
  pointwise
  blk_ext [index_0 t]

theorem w_read (t : Fin cfg0.N) (r : Fin 1024) (d : Fin 8) (b : Fin 4) (s : Fin 2048) (h : b.val * 2048 + s.val = (min t.val 7) * 1024 + r.val) :
    iblk m c 1 t (ix2 r d) = (m ((c : Thread nD τ).loc main_arg2) : Vec Ideal S4x2048x8 .f32) (ix3 b s d) := by
  blk_simp [iblk, index_1 t]
  entry_read
  pointwise
  blk_ext [index_1 t]

theorem ix_read (t : Fin cfg0.N) (n : Fin 8) (r : Fin 1024) (b : Fin 4) (s : Fin 2048) (h : b.val * 2048 + s.val = (t.val - 1) * 1024 + r.val) :
    iblk m c 2 t (ix2 n r) = (m ((c : Thread nD τ).loc main_arg3) : Vec Ideal S4x2048x8 .i32) (ix3 b s n) := by
  blk_simp [iblk, index_2 t]
  entry_read
  pointwise
  blk_ext [index_2 t]

theorem wn_read (t : Fin cfg0.N) : iblk m c 3 t = (m ((c : Thread nD τ).loc main_arg4) : Vec Ideal S8x2048x256 .f32) := by
  funext y
  blk_ext [iblk, V, index_3 t]

theorem p_read (t : Fin cfg0.N) : iblk m c 4 t = (m ((c : Thread nD τ).loc main_arg5) : Vec Ideal S32x256 .f32) := by
  funext y
  blk_ext [iblk, V, index_4 t]

/-- The dense row at batch `b`, position `s`: the experts' projections weighted and summed. -/
def denseRow (x : Vec Ideal S4x2048x2048 .f32) (w : Vec Ideal S4x2048x8 .f32) (wn : Vec Ideal S8x2048x256 .f32) (b : Fin 4) (s : Fin 2048) (l : Fin 256) : EReal :=
  ∑ n : Fin 8, (∑ d : Fin 2048, x (ix3 b s d) * wn (ix3 n d l)) * w (ix3 b s n)

/-- The dense block of the point before, at a row. -/
theorem dense_read (t : Fin cfg0.N) (ht : t.val ≠ 0) (r : Fin 1024) (l : Fin 256) (b : Fin 4) (s : Fin 2048) (h : b.val * 2048 + s.val = (t.val - 1) * 1024 + r.val) :
    denseAt m c (prev t) (ix2 r l) = denseRow (m ((c : Thread nD τ).loc main_arg0)) (m ((c : Thread nD τ).loc main_arg2)) (m ((c : Thread nD τ).loc main_arg4)) b s l := by
  have hN : t.val < 9 := lt_of_lt_of_eq t.isLt (show cfg0.N = 9 from N_0)
  have hp : b.val * 2048 + s.val = (min (prev t).val 7) * 1024 + r.val := by
    show _ = (min (t.val - 1) 7) * 1024 + r.val
    omega
  unfold denseAt packed denseRow
  rw [dense_apply, wn_read]
  refine Finset.sum_congr rfl fun n _ => ?_
  rw [w_read m c (prev t) r n b s hp]
  refine congrArg (· * _) (Finset.sum_congr rfl fun d _ => ?_)
  rw [x_read m c (prev t) r d b s hp]

/-- The written-back blocks tile the result. -/
theorem covers_5 : win0_5.Covers := by decide +kernel

/-- The result array after the run. -/
theorem result_value (u : Fin 32 → Fin 256 → ℝ) (hu : ∀ j l, unit (fun l => (m ((c : Thread nD τ).loc main_arg5) : Vec Ideal S32x256 .f32) (ix2 j l)) l = (u j l : EReal))
    (x : Fin 4 → Fin 2048 → Fin 256 → ℝ)
    (hx : ∀ b s l, denseRow (m ((c : Thread nD τ).loc main_arg0)) (m ((c : Thread nD τ).loc main_arg2)) (m ((c : Thread nD τ).loc main_arg4)) b s l = (x b s l : EReal))
    (q : Fin 4 → Fin 2048 → Fin 8 → Fin 32)
    (hq : ∀ b s n, (m ((c : Thread nD τ).loc main_arg3) : Vec Ideal S4x2048x8 .i32) (ix3 b s n) = BitVec.ofNat 32 (q b s n).val)
    (G : Vec Ideal S8192x256 .f32)
    (hG : ∀ (R : Fin 8192) (l : Fin 256) (b : Fin 4) (s : Fin 2048), b.val * 2048 + s.val = R.val →
      G (ix2 R l) = (reflectAll ((List.ofFn (q b s)).map u) (x b s) l : EReal)) :
    (dats m 0 c).arrAt 5 cfg0.N = G := by
  refine (dats m 0 c).arrAt_eq_of_covers 5 _ covers_5 fun t hf y => ?_
  have ht : t.val ≠ 0 := (flush5 t).1 hf
  have hN : t.val < 9 := lt_of_lt_of_eq t.isLt (show cfg0.N = 9 from N_0)
  blk_simp
  rw [after_5]
  obtain ⟨r, l, rfl⟩ : ∃ (r : Fin 1024) (l : Fin 256), y = ix2 r l := ⟨y 0, y 1, by funext a; match a with | ⟨0, _⟩ => rfl | ⟨1, _⟩ => rfl⟩
  have hR : (t.val - 1) * 1024 + r.val < 8192 := by have := r.isLt; omega
  have he : (win0_5.blk t).view.emb (ix2 r l) = ix2 (⟨(t.val - 1) * 1024 + r.val, hR⟩ : Fin 8192) l := by blk_ext [index_5 t]
  have hbs : (((t.val - 1) * 1024 + r.val) / 2048) * 2048 + ((t.val - 1) * 1024 + r.val) % 2048 = (t.val - 1) * 1024 + r.val := by omega
  have hb : ((t.val - 1) * 1024 + r.val) / 2048 < 4 := by omega
  rw [he, hG ⟨_, hR⟩ l ⟨_, hb⟩ ⟨_, Nat.mod_lt _ (by decide)⟩ hbs]
  unfold outAt
  refine house_value _ _ _ r u (fun j l => ?_) _ (fun l => ?_) _ (fun n => ?_) l
  · rw [p_read]; exact hu j l
  · rw [laid_apply, dense_read m c t ht r l ⟨_, hb⟩ ⟨_, Nat.mod_lt _ (by decide)⟩ hbs]; exact hx _ _ l
  · rw [ix_read m c t n r ⟨_, hb⟩ ⟨_, Nat.mod_lt _ (by decide)⟩ hbs]; exact hq _ _ n

end Cert.KernelIdeal.Body

end
-- ==== Proof.Picked.lean ====
/- What the reference's table lookup reads: with every index in range it is the named row of the table. -/
module

public import proofs.«01_k».proof.Proof.Gen.ReferenceIdeal.Read
public import Idealize.ShloMosaic.Lib.Pointwise
public import Idealize.ShloMosaic.Lib.WordCmp

@[expose] public section

set_option maxRecDepth 16384

noncomputable section

namespace Cert.ReferenceIdeal.Rows

open Cert.ReferenceIdeal Cert.ReferenceIdeal.Gen Cert.ReferenceIdeal.Read
open Idealize.ShloMosaic Idealize.ShloMosaic.TcCoe

/-- Every index of the array of indices is a row of the table. -/
def InRange (ix : Vec Ideal S4x2048x8 .i32) (q : Fin 4 → Fin 2048 → Fin 8 → Fin 32) : Prop :=
  ∀ b s n, ix (ix3 b s n) = BitVec.ofNat 32 (q b s n).val

variable {ix : Vec Ideal S4x2048x8 .i32} {q : Fin 4 → Fin 2048 → Fin 8 → Fin 32}

/-- A row number read as a word is not negative, so the wrap of negative indices leaves it. -/
theorem wrapped_word (p : Fin 32) (a : BitVec 32) : Scalar.select (IntOp.cmpi .slt (BitVec.ofNat 32 p.val) 0#32) a (BitVec.ofNat 32 p.val) = BitVec.ofNat 32 p.val := by
  have : ∀ p : Fin 32, IntOp.cmpi .slt (BitVec.ofNat 32 p.val) 0#32 = 0#1 := by decide
  rw [this p]; rfl

theorem inside_word : ∀ p : Fin 32, IntOp.andi (IntOp.cmpi .sge (BitVec.ofNat 32 p.val) 0#32) (IntOp.cmpi .sle (BitVec.ofNat 32 p.val) 31#32) = 1#1 := by decide

theorem clamped_word : ∀ p : Fin 32, min (BitVec.ofNat 32 p.val).toInt.toNat (32 - 1) = p.val := by decide

/-- The index the lookup uses. -/
theorem wrapped_apply (h : InRange ix q) (b : Fin 4) (s : Fin 2048) (n : Fin 8) (o : Fin 1) :
    val_main_call0_v5 (F := Ideal) ix (ix4 b s n o) = BitVec.ofNat 32 (q b s n).val := by
  rw [val_main_call0_v5_apply, val_main_call0_v4_apply, val_main_call0_v1_apply, val_main_call0_v0_apply]
  have e : ix (idx_main_call0_v5 (ix4 b s n o)) = BitVec.ofNat 32 (q b s n).val :=
    (congrArg ix (by funext a; match a with | ⟨0, _⟩ => rfl | ⟨1, _⟩ => rfl | ⟨2, _⟩ => rfl)).trans (h b s n)
  rw [e]
  exact wrapped_word _ _

theorem idx4_eq (i : S4x2048x8x1.Idx) : ∃ (b : Fin 4) (s : Fin 2048) (n : Fin 8) (o : Fin 1), i = ix4 b s n o := by
  refine ⟨i 0, i 1, i 2, i 3, ?_⟩
  funext a; match a with | ⟨0, _⟩ => rfl | ⟨1, _⟩ => rfl | ⟨2, _⟩ => rfl | ⟨3, _⟩ => rfl

/-- Every index passes the range check, -/
theorem inside_apply (h : InRange ix q) (i : S4x2048x8x1.Idx) : val_main_call0_v11 (F := Ideal) ix i = 1#1 := by
  obtain ⟨b, s, n, o, rfl⟩ := idx4_eq i
  rw [val_main_call0_v11_apply, val_main_call0_v7_apply, val_main_call0_v10_apply, val_main_call0_v6_apply, val_main_call0_v9_apply, val_main_call0_v8_apply,
    wrapped_apply h]
  exact inside_word _

/-- so the conjunction over the check's unit axis is true. -/
theorem checked_apply (h : InRange ix q) (i : S4x2048x8.Idx) : val_main_call0_v12 (F := Ideal) ix i = 1#1 := by
  unfold val_main_call0_v12
  rw [Host.reduce_eq_foldl]
  refine List.foldlRecOn (motive := fun r => r = 1#1) _ _ rfl fun r hr j _ => ?_
  rw [hr, inside_apply h j]; rfl

/-- The table row an index names. -/
theorem gathered_apply (h : InRange ix q) (p : Vec Ideal S32x256 .f32) (b : Fin 4) (s : Fin 2048) (n : Fin 8) (l : Fin 256) :
    val_main_call0_v13 (F := Ideal) ix p (ix4 b s n l) = p (ix2 (q b s n) l) := by
  unfold val_main_call0_v13
  generalize hw : val_main_call0_v5 (F := Ideal) ix = w
  have hw' : w (ix4 b s n 0) = BitVec.ofNat 32 (q b s n).val := by rw [← hw]; exact wrapped_apply h b s n 0
  unfold Host.gather
  refine congrArg p (funext fun a => Fin.ext ?_)
  generalize hd : gather_S32x256_S4x2048x8x1_S4x2048x8x256_3_0_n_n_0_3_1256 = d
  show d.start (ix4 b s n l) w a + d.batchCoord (ix4 b s n l) a + d.offCoord (ix4 b s n l) a = _
  subst hd
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x256_S4x2048x8x1_S4x2048x8x256_3_0_n_n_0_3_1256.startIndexMap from List.mem_singleton.mpr rfl)]
    have hsi : gather_S32x256_S4x2048x8x1_S4x2048x8x256_3_0_n_n_0_3_1256.siIdx (ix4 b s n l)
        ⟨List.idxOf (0 : Fin 2) gather_S32x256_S4x2048x8x1_S4x2048x8x256_3_0_n_n_0_3_1256.startIndexMap, List.idxOf_lt_length_iff.2 (List.mem_singleton.mpr rfl)⟩ = ix4 b s n 0 := by
      funext b; refine Fin.ext ?_
      match b with
      | ⟨0, _⟩ => rfl
      | ⟨1, _⟩ => rfl
      | ⟨2, _⟩ => rfl
      | ⟨3, _⟩ => rfl
    rw [hsi, hw']
    exact clamped_word _
  · rw [GatherDims.batchCoord_eq_zero _ _ _ List.not_mem_nil]
    unfold GatherDims.start
    rw [dif_neg (show ¬ (1 : Fin 2) ∈ gather_S32x256_S4x2048x8x1_S4x2048x8x256_3_0_n_n_0_3_1256.startIndexMap by decide)]
    simp only [Nat.zero_add]
    unfold GatherDims.offCoord
    rw [dif_pos (show (1 : Fin 2) ∈ gather_S32x256_S4x2048x8x1_S4x2048x8x256_3_0_n_n_0_3_1256.sKept by decide)]
    rfl

/-- The looked-up rows. -/
theorem picked_apply (h : InRange ix q) (p : Vec Ideal S32x256 .f32) (b : Fin 4) (s : Fin 2048) (n : Fin 8) (l : Fin 256) :
    val_main_v5 (F := Ideal) ix p (ix4 b s n l) = p (ix2 (q b s n) l) := by
  rw [val_main_v5_apply, val_main_call0_v14_apply, checked_apply h, gathered_apply h]; rfl

end Cert.ReferenceIdeal.Rows

end
-- ==== Proof.Reference.lean ====
/- The reference's result: each row is the dense row reflected in the eight unit vectors that the row's indices name. -/
module

public import proofs.«01_k».proof.Proof.Picked
public import proofs.«01_k».proof.Proof.Reflect

@[expose] public section

set_option maxRecDepth 16384

noncomputable section

namespace Cert.ReferenceIdeal.Rows

open Cert.ReferenceIdeal Cert.ReferenceIdeal.Gen Cert.ReferenceIdeal.Read Cert.Reflect
open Idealize.ShloMosaic Idealize.ShloMosaic.TcCoe

variable {F : FTy → Type} [FloatOps F]

/-- The `n`-th vector of every row. -/
def nth (v : FVec F S4x2048x8x256 .f32) (n : ℕ) (hn : S4x2048x8x256.Slices ![0, 0, n, 0] S4x2048x1x256) : FVec F S4x2048x256 .f32 :=
  shapeCast S4x2048x256 (extractStridedSlice S4x2048x1x256 ![0, 0, n, 0] v hn) shapeCasts_S4x2048x1x256_S4x2048x256

/-- Every row of an array summed. -/
def rowSum (h : FVec F S4x2048x256 .f32) : FVec F S4x2048x1 .f32 :=
  broadcastInDim S4x2048x1 ![0, 1] bcast_S4x2048_S4x2048x1_0_1 (Host.reduceAdd h (constant S_ .f32 0x00000000#32) reducesTo_S4x2048x256_S4x2048_d2 h_S_)

/-- The vectors divided by the root of their square sum and a small number. -/
def units (v : FVec F S4x2048x256 .f32) : FVec F S4x2048x256 .f32 :=
  Host.divf v (broadcastInDim S4x2048x256 ![0, 1, 2] bcast_S4x2048x1_S4x2048x256_0_1_2
    (Host.sqrt (addf (rowSum (mulf v v)) (broadcastInDim S4x2048x1 ![] bcast_S_S4x2048x1 (constant S_ .f32 0x322BCC77#32)))))

/-- One reflection of every row. -/
def step (h v : FVec F S4x2048x256 .f32) : FVec F S4x2048x256 .f32 :=
  subf h (mulf (mulf (broadcastInDim S4x2048x256 ![] bcast_S_S4x2048x256 (constant S_ .f32 0x40000000#32)) (units v))
    (broadcastInDim S4x2048x256 ![0, 1, 2] bcast_S4x2048x1_S4x2048x256_0_1_2 (rowSum (mulf h (units v)))))

/-- All eight. -/
def steps (h : FVec F S4x2048x256 .f32) (v : FVec F S4x2048x8x256 .f32) : FVec F S4x2048x256 .f32 :=
  step (step (step (step (step (step (step (step h
    (nth v 0 slices_S4x2048x8x256_S4x2048x1x256_0_0_0_0)) (nth v 1 slices_S4x2048x8x256_S4x2048x1x256_0_0_1_0))
    (nth v 2 slices_S4x2048x8x256_S4x2048x1x256_0_0_2_0)) (nth v 3 slices_S4x2048x8x256_S4x2048x1x256_0_0_3_0))
    (nth v 4 slices_S4x2048x8x256_S4x2048x1x256_0_0_4_0)) (nth v 5 slices_S4x2048x8x256_S4x2048x1x256_0_0_5_0))
    (nth v 6 slices_S4x2048x8x256_S4x2048x1x256_0_0_6_0)) (nth v 7 slices_S4x2048x8x256_S4x2048x1x256_0_0_7_0)

/-- The reference is the eight steps. -/
theorem result_eq (x : FVec F S4x2048x2048 .f32) (w : FVec F S4x2048x8 .f32) (ix : IVec S4x2048x8 32) (wn : FVec F S8x2048x256 .f32) (p : FVec F S32x256 .f32) :
    val_main_v149 (F := F) x w ix wn p = steps (val_main_v4 (F := F) x w wn) (val_main_v5 (F := F) ix p) := rfl

theorem nth_apply (v : FVec Ideal S4x2048x8x256 .f32) (n : Fin 8) (hn) (b : Fin 4) (s : Fin 2048) (l : Fin 256) :
    nth v n.val hn (ix3 b s l) = v (ix4 b s n l) := by
  pointwise [nth]

theorem rowSum_apply (h : FVec Ideal S4x2048x256 .f32) (b : Fin 4) (s : Fin 2048) (o : Fin 1) :
    rowSum h (ix3 b s o) = ∑ l, h (ix3 b s l) := by
  pointwise [rowSum]

theorem units_apply (v : FVec Ideal S4x2048x256 .f32) (b : Fin 4) (s : Fin 2048) (l : Fin 256) :
    units v (ix3 b s l) = unit (fun l => v (ix3 b s l)) l := by
  rw [← div_eq_unit]
  pointwise [units]
  rw [rowSum_apply]
  rfl

theorem step_apply (h v : FVec Ideal S4x2048x256 .f32) (b : Fin 4) (s : Fin 2048) (l : Fin 256) :
    step h v (ix3 b s l) = h (ix3 b s l) - Ideal.ofBits .f32 0x40000000#32 * units v (ix3 b s l) * ∑ k, h (ix3 b s k) * units v (ix3 b s k) := by
  pointwise [step]
  rw [rowSum_apply]
  rfl

theorem dense_apply (x : FVec Ideal S4x2048x2048 .f32) (w : FVec Ideal S4x2048x8 .f32) (wn : FVec Ideal S8x2048x256 .f32) (b : Fin 4) (s : Fin 2048) (l : Fin 256) :
    val_main_v4 (F := Ideal) x w wn (ix3 b s l) = ∑ n : Fin 8, (∑ d : Fin 2048, x (ix3 b s d) * wn (ix3 n d l)) * w (ix3 b s n) := by
  pointwise [val_main_v4, val_main_v3, val_main_v2, val_main_v1, val_main_v0, val_main_cst]

/-- A step on a real row by a vector whose unit is real is the real reflection. -/
theorem step_real (h v : FVec Ideal S4x2048x256 .f32) (b : Fin 4) (s : Fin 2048) (x u : Fin 256 → ℝ)
    (hx : ∀ l, h (ix3 b s l) = ↑(x l)) (hu : ∀ l, unit (fun l => v (ix3 b s l)) l = ↑(u l)) (l : Fin 256) :
    step h v (ix3 b s l) = ↑(reflect u x l) := by
  rw [step_apply, ← direct, two_word]
  simp only [units_apply, hu, hx]

/-- The eight steps on a real row. -/
theorem steps_real (h : FVec Ideal S4x2048x256 .f32) (v : FVec Ideal S4x2048x8x256 .f32) (b : Fin 4) (s : Fin 2048) (x : Fin 256 → ℝ)
    (u : Fin 8 → Fin 256 → ℝ) (hx : ∀ l, h (ix3 b s l) = ↑(x l)) (hu : ∀ n l, unit (fun l => v (ix4 b s n l)) l = ↑(u n l)) (l : Fin 256) :
    steps h v (ix3 b s l) = ↑(reflectAll (List.ofFn u) x l) := by
  have key : ∀ (n : Fin 8) (hn) (l : Fin 256), unit (fun l => nth v n.val hn (ix3 b s l)) l = ↑(u n l) := by
    intro n hn l
    simp only [nth_apply]
    exact hu n l
  exact step_real _ _ b s _ _ (step_real _ _ b s _ _ (step_real _ _ b s _ _ (step_real _ _ b s _ _ (step_real _ _ b s _ _
    (step_real _ _ b s _ _ (step_real _ _ b s _ _ (step_real _ _ b s _ _ hx (key 0 _)) (key 1 _)) (key 2 _)) (key 3 _))
    (key 4 _)) (key 5 _)) (key 6 _)) (key 7 _) l

/-- The reference's result, row by row. -/
theorem value_apply (x : FVec Ideal S4x2048x2048 .f32) (w : FVec Ideal S4x2048x8 .f32) (ix : IVec S4x2048x8 32) (wn : FVec Ideal S8x2048x256 .f32)
    (p : FVec Ideal S32x256 .f32) (u : Fin 32 → Fin 256 → ℝ) (hu : ∀ j l, unit (fun l => p (ix2 j l)) l = ↑(u j l))
    (y : Fin 4 → Fin 2048 → Fin 256 → ℝ)
    (hy : ∀ b s l, ∑ n : Fin 8, (∑ d : Fin 2048, x (ix3 b s d) * wn (ix3 n d l)) * w (ix3 b s n) = ↑(y b s l))
    (q : Fin 4 → Fin 2048 → Fin 8 → Fin 32) (hq : InRange ix q) (R : Fin 8192) (l : Fin 256) (b : Fin 4) (s : Fin 2048)
    (hR : b.val * 2048 + s.val = R.val) :
    val_main_v150 (F := Ideal) x w ix wn p (ix2 R l) = ↑(reflectAll ((List.ofFn (q b s)).map u) (y b s) l) := by
  have flat : val_main_v150 (F := Ideal) x w ix wn p (ix2 R l) = val_main_v149 (F := Ideal) x w ix wn p (ix3 b s l) := by
    rw [val_main_v150_apply]
    congr 1
    funext a
    apply Fin.ext
    have := b.isLt
    have := s.isLt
    have := l.isLt
    match a with
    | ⟨0, _⟩ => dsimp; omega
    | ⟨1, _⟩ => dsimp; omega
    | ⟨2, _⟩ => dsimp; omega
  rw [flat, result_eq, List.map_ofFn]
  exact steps_real _ _ b s _ _ (fun l => (dense_apply x w wn b s l).trans (hy b s l))
    (fun n l => by simp only [picked_apply hq]; exact hu _ l) l

end Cert.ReferenceIdeal.Rows

end
-- ==== Proof.Usable.lean ====
/- The precondition, element by element: real inputs, and indices that are words of the numbers below 32. -/
module

public import proofs.«01_k».proof.Defs
public import Idealize.ShloMosaic.Lib.Pointwise
public import Idealize.ShloMosaic.Lib.WordCmp
public import Idealize.ShloMosaic.PureOps.Ideal.Laws

@[expose] public section

namespace Cert.Pre_usable

open Idealize.ShloMosaic

/-- The literal infinity. -/
theorem infinity_word : Ideal.ofBits .f32 0x7F800000#32 = (⊤ : EReal) := by
  simp [Ideal.ofBits, Ideal.ieee]

/-- A number whose size is below infinity is real. -/
theorem real_of_below (a : EReal) (h : Ideal.cmp .olt (max a (-a)) (Ideal.ofBits .f32 0x7F800000#32) = 1#1) : ∃ r : ℝ, a = (r : EReal) := by
  rw [infinity_word] at h
  induction a with
  | bot => simp [Ideal.cmp] at h
  | top => simp [Ideal.cmp] at h
  | coe r => exact ⟨r, rfl⟩

theorem of_mask {P : Prop} [Decidable P] (h : BitVec.ofBool (decide P) = 1#1) : P := by
  by_contra hn
  simp [hn] at h

/-- A word from 0 to 31 is the word of such a number. -/
theorem small_of_between (w : BitVec 32) (h0 : IntOp.cmpi .sge w 0#32 = 1#1) (h1 : IntOp.cmpi .slt w 32#32 = 1#1) :
    ∃ q : Fin 32, w = BitVec.ofNat 32 q.val := by
  rw [WordCmp.cmpi_sge_eq] at h0
  rw [WordCmp.cmpi_slt_eq] at h1
  have h0 : (0#32).toInt ≤ w.toInt := of_mask h0
  have h1 : w.toInt < (32#32).toInt := of_mask h1
  have e0 : (0#32 : BitVec 32).toInt = 0 := by decide
  have e1 : (32#32 : BitVec 32).toInt = 32 := by decide
  rw [e0, BitVec.toInt_eq_toNat_cond] at h0
  rw [e1, BitVec.toInt_eq_toNat_cond] at h1
  have hw := w.isLt
  have : w.toNat < 32 := by split at h0 <;> omega
  exact ⟨⟨w.toNat, this⟩, by simp⟩

variable [Facts] (x : FVec Ideal S4x2048x2048 .f32) (i : IVec S4x2048 32) (w : FVec Ideal S4x2048x8 .f32) (ix : IVec S4x2048x8 32)
  (wn : FVec Ideal S8x2048x256 .f32) (p : FVec Ideal S32x256 .f32)

theorem x_real (h : (fn (F := Ideal) x i w ix wn p).1 = fun _ => 1#1) (j : S4x2048x2048.Idx) : ∃ r : ℝ, x j = (r : EReal) :=
  real_of_below _ (congrFun h j)

theorem w_real (h : (fn (F := Ideal) x i w ix wn p).2.1 = fun _ => 1#1) (j : S4x2048x8.Idx) : ∃ r : ℝ, w j = (r : EReal) :=
  real_of_below _ (congrFun h j)

theorem wn_real (h : (fn (F := Ideal) x i w ix wn p).2.2.1 = fun _ => 1#1) (j : S8x2048x256.Idx) : ∃ r : ℝ, wn j = (r : EReal) :=
  real_of_below _ (congrFun h j)

theorem ix_small (h0 : (fn (F := Ideal) x i w ix wn p).2.2.2.1 = fun _ => 1#1) (h1 : (fn (F := Ideal) x i w ix wn p).2.2.2.2 = fun _ => 1#1)
    (j : S4x2048x8.Idx) : ∃ q : Fin 32, ix j = BitVec.ofNat 32 q.val :=
  small_of_between _ (congrFun h0 j) (congrFun h1 j)

end Cert.Pre_usable
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_usable
public import proofs.«01_k».proof.Proof.Run
public import proofs.«01_k».proof.Proof.SameText
public import proofs.«01_k».proof.Proof.Array
public import proofs.«01_k».proof.Proof.Reference
public import proofs.«01_k».proof.Proof.Usable
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Kernel

/-- The kernel at its ideal values: arguments unchanged, counters at zero. -/
theorem quiescent_kernelIdeal : Cert.quiescent_KernelIdeal := fun m g _ => Cert.KernelIdeal.Body.frame m g

/-- The kernel bit by bit: the same program, hence the same run. -/
theorem quiescent_kernel : Cert.quiescent_Kernel := fun m g _ => by
  rw [Cert.SameText.defs_same, Cert.SameText.main_same]
  exact Cert.KernelIdeal.Body.frame (F := Bits) m g

/-- The reference: host operations only. -/
theorem quiescent_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The two results: the kernel's array after the run is the reference's value of the same arguments. -/
theorem value_eq (m : (ℓ : Loc Cert.KernelIdeal.nD Cert.KernelIdeal.τ Cert.KernelIdeal.sig) → Buf (Elt Ideal) ℓ)
    (hpre : @Cert.Pre_KernelIdeal_usable Cert.Pre_usable.Gen.facts m) (c : Dev Cert.KernelIdeal.nD) :
    (Cert.KernelIdeal.Body.dats m 0 c).arrAt 5 (Cert.KernelIdeal.cfgs 0).N
      = Cert.ReferenceIdeal.Read.val_main_v150 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  obtain ⟨h0, h1, h2, h3, h4⟩ := hpre c
  have hx := Cert.Pre_usable.x_real _ _ _ _ _ _ h0
  have hw := Cert.Pre_usable.w_real _ _ _ _ _ _ h1
  have hn := Cert.Pre_usable.wn_real _ _ _ _ _ _ h2
  have hi := Cert.Pre_usable.ix_small _ _ _ _ _ _ h3 h4
  choose q hq using fun (b : Fin 4) (s : Fin 2048) (n : Fin 8) => hi (ix3 b s n)
  choose u hu using fun (j : Fin 32) (l : Fin 256) => Cert.Reflect.unit_real
    (fun l => (m ((c.tc : Thread Cert.KernelIdeal.nD Cert.KernelIdeal.τ).loc Cert.KernelIdeal.main_arg5) : Vec Ideal Cert.KernelIdeal.S32x256 .f32) (ix2 j l)) l
  choose y hy using fun (b : Fin 4) (s : Fin 2048) (l : Fin 256) => Cert.Reflect.weighted_real
    (fun d => (m ((c.tc : Thread Cert.KernelIdeal.nD Cert.KernelIdeal.τ).loc Cert.KernelIdeal.main_arg0) : Vec Ideal Cert.KernelIdeal.S4x2048x2048 .f32) (ix3 b s d))
    (fun n => (m ((c.tc : Thread Cert.KernelIdeal.nD Cert.KernelIdeal.τ).loc Cert.KernelIdeal.main_arg2) : Vec Ideal Cert.KernelIdeal.S4x2048x8 .f32) (ix3 b s n))
    (fun n d => (m ((c.tc : Thread Cert.KernelIdeal.nD Cert.KernelIdeal.τ).loc Cert.KernelIdeal.main_arg4) : Vec Ideal Cert.KernelIdeal.S8x2048x256 .f32) (ix3 n d l))
    (fun _ => hx _) (fun _ => hw _) (fun _ _ => hn _)
  exact Cert.KernelIdeal.Body.result_value m c u hu y hy q hq _ fun R l b s hR =>
    Cert.ReferenceIdeal.Rows.value_apply _ _ _ _ _ u hu y hy q hq R l b s hR

/-- The value claim. -/
theorem algebraic : @Cert.algebraic_KernelIdeal_ReferenceIdeal_pre_usable Cert.KernelIdeal.Gen.facts Cert.ReferenceIdeal.Gen.facts
    Cert.Pre_usable.Gen.facts := by
  intro m g m' g' hpre hagree
  refine ⟨fun c => (Cert.KernelIdeal.Body.dats m 0 c).arrAt 5 (Cert.KernelIdeal.cfgs 0).N, ?_, ?_⟩
  · run_from Cert.KernelIdeal.Body.run_main m g
  · refine (θ_run Cert.ReferenceIdeal.defs _ _).mono (fun r h c => ⟨(h c).1.trans ?_, (h c).2⟩) (Cert.ReferenceIdeal.Value.run (F := Ideal) m' g')
    obtain ⟨a0, -, a2, a3, a4, a5⟩ := hagree c
    refine (Cert.ReferenceIdeal.Read.val_main_v150_eq (F := Ideal) _).trans (Eq.trans ?_ (value_eq m hpre c).symm)
    rw [← a0, ← a2, ← a3, ← a4, ← a5]

theorem claim : Cert.Claim :=
  ⟨Cert.Kernel.Gen.facts, Cert.KernelIdeal.Gen.facts, Cert.ReferenceIdeal.Gen.facts, Cert.Pre_usable.Gen.facts,
    quiescent_kernel, quiescent_kernelIdeal, fun m g _ => quiescent_kernelIdeal m g trivial,
    quiescent_reference, fun m g _ => quiescent_reference m g trivial, trivial, algebraic⟩

end Cert.Proof

end
